-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S3x256x8192 : Shape := ⟨3, ![3, 256, 8192]⟩
abbrev S16x8x128 : Shape := ⟨3, ![16, 8, 128]⟩
abbrev S16 : Shape := ⟨1, ![16]⟩
abbrev S3 : Shape := ⟨1, ![3]⟩
abbrev S_ : Shape := ⟨0, ![]⟩
abbrev S1 : Shape := ⟨1, ![1]⟩
abbrev S1x256x8192 : Shape := ⟨3, ![1, 256, 8192]⟩
abbrev S1x256x256 : Shape := ⟨3, ![1, 256, 256]⟩
abbrev S256x256 : Shape := ⟨2, ![256, 256]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .bf16⟩
  | .local _ .vmem, ⟨3, _⟩ => ⟨S16x256x256, .bf16⟩
  | .local _ .vmem, ⟨4, _⟩ => ⟨S3x256x8192, .f32⟩
  | .local _ .vmem, ⟨5, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v10 : BitVec 32 := Scalar.addi v2 c1_i32_3
  let c16_i32_4 : BitVec 32 := 16#32
  let c0_i32 : BitVec 32 := 0#32
  let v11 : BitVec 1 := Scalar.cmpi .eq c16_i32_4 c0_i32
  let c1_i32_5 : BitVec 32 := 1#32
  let v12 : BitVec 32 := Scalar.select v11 c1_i32_5 c16_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1_i32_10 : BitVec 32 := 1#32
  let v21 : BitVec 32 := Scalar.muli v20 c1_i32_10
  let v22 : BitVec 32 := Scalar.addi c0_i32_11 v21
  v22.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v23 : BitVec 32 := Scalar.addi v2 c2_i32
  let c16_i32_12 : BitVec 32 := 16#32
  let c0_i32_13 : BitVec 32 := 0#32
  let v24 : BitVec 1 := Scalar.cmpi .eq c16_i32_12 c0_i32_13
  let c1_i32_14 : BitVec 32 := 1#32
  let v25 : BitVec 32 := Scalar.select v24 c1_i32_14 c16_i32_12
  let v26 : BitVec 32 := Scalar.remsi v23 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_19 : BitVec 32 := 1#32
  let v34 : BitVec 32 := Scalar.muli v33 c1_i32_19
  let v35 : BitVec 32 := Scalar.addi c0_i32_20 v34
  v35.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v36 : BitVec 32 := Scalar.addi v2 c3_i32
  let c16_i32_21 : BitVec 32 := 16#32
  let c0_i32_22 : BitVec 32 := 0#32
  let v37 : BitVec 1 := Scalar.cmpi .eq c16_i32_21 c0_i32_22
  let c1_i32_23 : BitVec 32 := 1#32
  let v38 : BitVec 32 := Scalar.select v37 c1_i32_23 c16_i32_21
  let v39 : BitVec 32 := Scalar.remsi v36 v38
  let c0_i32_25 : BitVec 32 := 0#32
  let v41 : BitVec 1 := Scalar.cmpi .slt v39 c0_i32_25
  let c0_i32_26 : BitVec 32 := 0#32
  let v42 : BitVec 1 := Scalar.cmpi .slt v38 c0_i32_26
  let v43 : BitVec 1 := Scalar.xori v41 v42
  let c0_i32_24 : BitVec 32 := 0#32
  let v40 : BitVec 1 := Scalar.cmpi .ne v39 c0_i32_24
  let v44 : BitVec 1 := Scalar.andi v43 v40
  let v45 : BitVec 32 := Scalar.addi v39 v38
  let v46 : BitVec 32 := Scalar.select v44 v45 v39
  let c1_i32_28 : BitVec 32 := 1#32
  let v47 : BitVec 32 := Scalar.muli v46 c1_i32_28
  let v48 : BitVec 32 := Scalar.addi c0_i32_29 v47
  v48.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.addi v2 c4_i32
  let c16_i32_30 : BitVec 32 := 16#32
  let c0_i32_31 : BitVec 32 := 0#32
  let v50 : BitVec 1 := Scalar.cmpi .eq c16_i32_30 c0_i32_31
  let c1_i32_32 : BitVec 32 := 1#32
  let v51 : BitVec 32 := Scalar.select v50 c1_i32_32 c16_i32_30
  let v52 : BitVec 32 := Scalar.remsi v49 v51
  let c0_i32_34 : BitVec 32 := 0#32
  let v54 : BitVec 1 := Scalar.cmpi .slt v52 c0_i32_34
  let c0_i32_35 : BitVec 32 := 0#32
  let v55 : BitVec 1 := Scalar.cmpi .slt v51 c0_i32_35
  let v56 : BitVec 1 := Scalar.xori v54 v55
  let c0_i32_33 : BitVec 32 := 0#32
  let v53 : BitVec 1 := Scalar.cmpi .ne v52 c0_i32_33
  let v57 : BitVec 1 := Scalar.andi v56 v53
  let v58 : BitVec 32 := Scalar.addi v52 v51
  let v59 : BitVec 32 := Scalar.select v57 v58 v52
  let c1_i32_37 : BitVec 32 := 1#32
  let v60 : BitVec 32 := Scalar.muli v59 c1_i32_37
  let v61 : BitVec 32 := Scalar.addi c0_i32_38 v60
  v61.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v62 : BitVec 32 := Scalar.addi v2 c5_i32
  let c16_i32_39 : BitVec 32 := 16#32
  let c0_i32_40 : BitVec 32 := 0#32
  let v63 : BitVec 1 := Scalar.cmpi .eq c16_i32_39 c0_i32_40
  let c1_i32_41 : BitVec 32 := 1#32
  let v64 : BitVec 32 := Scalar.select v63 c1_i32_41 c16_i32_39
  let v65 : BitVec 32 := Scalar.remsi v62 v64
  let c0_i32_43 : BitVec 32 := 0#32
  let v67 : BitVec 1 := Scalar.cmpi .slt v65 c0_i32_43
  let c0_i32_44 : BitVec 32 := 0#32
  let v68 : BitVec 1 := Scalar.cmpi .slt v64 c0_i32_44
  let v69 : BitVec 1 := Scalar.xori v67 v68
  let c0_i32_42 : BitVec 32 := 0#32
  let v66 : BitVec 1 := Scalar.cmpi .ne v65 c0_i32_42
  let v70 : BitVec 1 := Scalar.andi v69 v66
  let v71 : BitVec 32 := Scalar.addi v65 v64
  let v72 : BitVec 32 := Scalar.select v70 v71 v65
  let c1_i32_46 : BitVec 32 := 1#32
  let v73 : BitVec 32 := Scalar.muli v72 c1_i32_46
  let v74 : BitVec 32 := Scalar.addi c0_i32_47 v73
  v74.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v75 : BitVec 32 := Scalar.addi v2 c6_i32
  let c16_i32_48 : BitVec 32 := 16#32
  let c0_i32_49 : BitVec 32 := 0#32
  let v76 : BitVec 1 := Scalar.cmpi .eq c16_i32_48 c0_i32_49
  let c1_i32_50 : BitVec 32 := 1#32
  let v77 : BitVec 32 := Scalar.select v76 c1_i32_50 c16_i32_48
  let v78 : BitVec 32 := Scalar.remsi v75 v77
  let c0_i32_52 : BitVec 32 := 0#32
  let v80 : BitVec 1 := Scalar.cmpi .slt v78 c0_i32_52
  let c0_i32_53 : BitVec 32 := 0#32
  let v81 : BitVec 1 := Scalar.cmpi .slt v77 c0_i32_53
  let v82 : BitVec 1 := Scalar.xori v80 v81
  let c0_i32_51 : BitVec 32 := 0#32
  let v79 : BitVec 1 := Scalar.cmpi .ne v78 c0_i32_51
  let v83 : BitVec 1 := Scalar.andi v82 v79
  let v84 : BitVec 32 := Scalar.addi v78 v77
  let v85 : BitVec 32 := Scalar.select v83 v84 v78
  let c1_i32_55 : BitVec 32 := 1#32
  let v86 : BitVec 32 := Scalar.muli v85 c1_i32_55
  let v87 : BitVec 32 := Scalar.addi c0_i32_56 v86
  v87.toNat
def k0_dev7 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v88 : BitVec 32 := Scalar.addi v2 c7_i32
  let c16_i32_57 : BitVec 32 := 16#32
  let c0_i32_58 : BitVec 32 := 0#32
  let v89 : BitVec 1 := Scalar.cmpi .eq c16_i32_57 c0_i32_58
  let c1_i32_59 : BitVec 32 := 1#32
  let v90 : BitVec 32 := Scalar.select v89 c1_i32_59 c16_i32_57
  let v91 : BitVec 32 := Scalar.remsi v88 v90
  let c0_i32_61 : BitVec 32 := 0#32
  let v93 : BitVec 1 := Scalar.cmpi .slt v91 c0_i32_61
  let c0_i32_62 : BitVec 32 := 0#32
  let v94 : BitVec 1 := Scalar.cmpi .slt v90 c0_i32_62
  let v95 : BitVec 1 := Scalar.xori v93 v94
  let c0_i32_60 : BitVec 32 := 0#32
  let v92 : BitVec 1 := Scalar.cmpi .ne v91 c0_i32_60
  let v96 : BitVec 1 := Scalar.andi v95 v92
  let v97 : BitVec 32 := Scalar.addi v91 v90
  let v98 : BitVec 32 := Scalar.select v96 v97 v91
  let c1_i32_64 : BitVec 32 := 1#32
  let v99 : BitVec 32 := Scalar.muli v98 c1_i32_64
  let v100 : BitVec 32 := Scalar.addi c0_i32_65 v99
  v100.toNat
def k0_dev8 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v101 : BitVec 32 := Scalar.addi v2 c8_i32
  let c16_i32_66 : BitVec 32 := 16#32
  let c0_i32_67 : BitVec 32 := 0#32
  let v102 : BitVec 1 := Scalar.cmpi .eq c16_i32_66 c0_i32_67
  let c1_i32_68 : BitVec 32 := 1#32
  let v103 : BitVec 32 := Scalar.select v102 c1_i32_68 c16_i32_66
  let v104 : BitVec 32 := Scalar.remsi v101 v103
  let c0_i32_70 : BitVec 32 := 0#32
  let v106 : BitVec 1 := Scalar.cmpi .slt v104 c0_i32_70
  let c0_i32_71 : BitVec 32 := 0#32
  let v107 : BitVec 1 := Scalar.cmpi .slt v103 c0_i32_71
  let v108 : BitVec 1 := Scalar.xori v106 v107
  let c0_i32_69 : BitVec 32 := 0#32
  let v105 : BitVec 1 := Scalar.cmpi .ne v104 c0_i32_69
  let v109 : BitVec 1 := Scalar.andi v108 v105
  let v110 : BitVec 32 := Scalar.addi v104 v103
  let v111 : BitVec 32 := Scalar.select v109 v110 v104
  let c1_i32_73 : BitVec 32 := 1#32
  let v112 : BitVec 32 := Scalar.muli v111 c1_i32_73
  let v113 : BitVec 32 := Scalar.addi c0_i32_74 v112
  v113.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v114 : BitVec 32 := Scalar.addi v2 c9_i32
  let c16_i32_75 : BitVec 32 := 16#32
  let c0_i32_76 : BitVec 32 := 0#32
  let v115 : BitVec 1 := Scalar.cmpi .eq c16_i32_75 c0_i32_76
  let c1_i32_77 : BitVec 32 := 1#32
  let v116 : BitVec 32 := Scalar.select v115 c1_i32_77 c16_i32_75
  let v117 : BitVec 32 := Scalar.remsi v114 v116
  let c0_i32_79 : BitVec 32 := 0#32
  let v119 : BitVec 1 := Scalar.cmpi .slt v117 c0_i32_79
  let c0_i32_80 : BitVec 32 := 0#32
  let v120 : BitVec 1 := Scalar.cmpi .slt v116 c0_i32_80
  let v121 : BitVec 1 := Scalar.xori v119 v120
  let c0_i32_78 : BitVec 32 := 0#32
  let v118 : BitVec 1 := Scalar.cmpi .ne v117 c0_i32_78
  let v122 : BitVec 1 := Scalar.andi v121 v118
  let v123 : BitVec 32 := Scalar.addi v117 v116
  let v124 : BitVec 32 := Scalar.select v122 v123 v117
  let c1_i32_82 : BitVec 32 := 1#32
  let v125 : BitVec 32 := Scalar.muli v124 c1_i32_82
  let v126 : BitVec 32 := Scalar.addi c0_i32_83 v125
  v126.toNat
def k0_dev10 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v127 : BitVec 32 := Scalar.addi v2 c10_i32
  let c16_i32_84 : BitVec 32 := 16#32
  let c0_i32_85 : BitVec 32 := 0#32
  let v128 : BitVec 1 := Scalar.cmpi .eq c16_i32_84 c0_i32_85
  let c1_i32_86 : BitVec 32 := 1#32
  let v129 : BitVec 32 := Scalar.select v128 c1_i32_86 c16_i32_84
  let v130 : BitVec 32 := Scalar.remsi v127 v129
  let c0_i32_88 : BitVec 32 := 0#32
  let v132 : BitVec 1 := Scalar.cmpi .slt v130 c0_i32_88
  let c0_i32_89 : BitVec 32 := 0#32
  let v133 : BitVec 1 := Scalar.cmpi .slt v129 c0_i32_89
  let v134 : BitVec 1 := Scalar.xori v132 v133
  let c0_i32_87 : BitVec 32 := 0#32
  let v131 : BitVec 1 := Scalar.cmpi .ne v130 c0_i32_87
  let v135 : BitVec 1 := Scalar.andi v134 v131
  let v136 : BitVec 32 := Scalar.addi v130 v129
  let v137 : BitVec 32 := Scalar.select v135 v136 v130
  let c1_i32_91 : BitVec 32 := 1#32
  let v138 : BitVec 32 := Scalar.muli v137 c1_i32_91
  let v139 : BitVec 32 := Scalar.addi c0_i32_92 v138
  v139.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v140 : BitVec 32 := Scalar.addi v2 c11_i32
  let c16_i32_93 : BitVec 32 := 16#32
  let c0_i32_94 : BitVec 32 := 0#32
  let v141 : BitVec 1 := Scalar.cmpi .eq c16_i32_93 c0_i32_94
  let c1_i32_95 : BitVec 32 := 1#32
  let v142 : BitVec 32 := Scalar.select v141 c1_i32_95 c16_i32_93
  let v143 : BitVec 32 := Scalar.remsi v140 v142
  let c0_i32_97 : BitVec 32 := 0#32
  let v145 : BitVec 1 := Scalar.cmpi .slt v143 c0_i32_97
  let c0_i32_98 : BitVec 32 := 0#32
  let v146 : BitVec 1 := Scalar.cmpi .slt v142 c0_i32_98
  let v147 : BitVec 1 := Scalar.xori v145 v146
  let c0_i32_96 : BitVec 32 := 0#32
  let v144 : BitVec 1 := Scalar.cmpi .ne v143 c0_i32_96
  let v148 : BitVec 1 := Scalar.andi v147 v144
  let v149 : BitVec 32 := Scalar.addi v143 v142
  let v150 : BitVec 32 := Scalar.select v148 v149 v143
  let c1_i32_100 : BitVec 32 := 1#32
  let v151 : BitVec 32 := Scalar.muli v150 c1_i32_100
  let v152 : BitVec 32 := Scalar.addi c0_i32_101 v151
  v152.toNat
def k0_dev12 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v153 : BitVec 32 := Scalar.addi v2 c12_i32
  let c16_i32_102 : BitVec 32 := 16#32
  let c0_i32_103 : BitVec 32 := 0#32
  let v154 : BitVec 1 := Scalar.cmpi .eq c16_i32_102 c0_i32_103
  let c1_i32_104 : BitVec 32 := 1#32
  let v155 : BitVec 32 := Scalar.select v154 c1_i32_104 c16_i32_102
  let v156 : BitVec 32 := Scalar.remsi v153 v155
  let c0_i32_106 : BitVec 32 := 0#32
  let v158 : BitVec 1 := Scalar.cmpi .slt v156 c0_i32_106
  let c0_i32_107 : BitVec 32 := 0#32
  let v159 : BitVec 1 := Scalar.cmpi .slt v155 c0_i32_107
  let v160 : BitVec 1 := Scalar.xori v158 v159
  let c0_i32_105 : BitVec 32 := 0#32
  let v157 : BitVec 1 := Scalar.cmpi .ne v156 c0_i32_105
  let v161 : BitVec 1 := Scalar.andi v160 v157
  let v162 : BitVec 32 := Scalar.addi v156 v155
  let v163 : BitVec 32 := Scalar.select v161 v162 v156
  let c1_i32_109 : BitVec 32 := 1#32
  let v164 : BitVec 32 := Scalar.muli v163 c1_i32_109
  let v165 : BitVec 32 := Scalar.addi c0_i32_110 v164
  v165.toNat
def k0_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v166 : BitVec 32 := Scalar.addi v2 c13_i32
  let c16_i32_111 : BitVec 32 := 16#32
  let c0_i32_112 : BitVec 32 := 0#32
  let v167 : BitVec 1 := Scalar.cmpi .eq c16_i32_111 c0_i32_112
  let c1_i32_113 : BitVec 32 := 1#32
  let v168 : BitVec 32 := Scalar.select v167 c1_i32_113 c16_i32_111
  let v169 : BitVec 32 := Scalar.remsi v166 v168
  let c0_i32_115 : BitVec 32 := 0#32
  let v171 : BitVec 1 := Scalar.cmpi .slt v169 c0_i32_115
  let c0_i32_116 : BitVec 32 := 0#32
  let v172 : BitVec 1 := Scalar.cmpi .slt v168 c0_i32_116
  let v173 : BitVec 1 := Scalar.xori v171 v172
  let c0_i32_114 : BitVec 32 := 0#32
  let v170 : BitVec 1 := Scalar.cmpi .ne v169 c0_i32_114
  let v174 : BitVec 1 := Scalar.andi v173 v170
  let v175 : BitVec 32 := Scalar.addi v169 v168
  let v176 : BitVec 32 := Scalar.select v174 v175 v169
  let c1_i32_118 : BitVec 32 := 1#32
  let v177 : BitVec 32 := Scalar.muli v176 c1_i32_118
  let v178 : BitVec 32 := Scalar.addi c0_i32_119 v177
  v178.toNat
def k0_dev14 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v179 : BitVec 32 := Scalar.addi v2 c14_i32
  let c16_i32_120 : BitVec 32 := 16#32
  let c0_i32_121 : BitVec 32 := 0#32
  let v180 : BitVec 1 := Scalar.cmpi .eq c16_i32_120 c0_i32_121
  let c1_i32_122 : BitVec 32 := 1#32
  let v181 : BitVec 32 := Scalar.select v180 c1_i32_122 c16_i32_120
  let v182 : BitVec 32 := Scalar.remsi v179 v181
  let c0_i32_124 : BitVec 32 := 0#32
  let v184 : BitVec 1 := Scalar.cmpi .slt v182 c0_i32_124
  let c0_i32_125 : BitVec 32 := 0#32
  let v185 : BitVec 1 := Scalar.cmpi .slt v181 c0_i32_125
  let v186 : BitVec 1 := Scalar.xori v184 v185
  let c0_i32_123 : BitVec 32 := 0#32
  let v183 : BitVec 1 := Scalar.cmpi .ne v182 c0_i32_123
  let v187 : BitVec 1 := Scalar.andi v186 v183
  let v188 : BitVec 32 := Scalar.addi v182 v181
  let v189 : BitVec 32 := Scalar.select v187 v188 v182
  let c1_i32_127 : BitVec 32 := 1#32
  let v190 : BitVec 32 := Scalar.muli v189 c1_i32_127
  let v191 : BitVec 32 := Scalar.addi c0_i32_128 v190
  v191.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v192 : BitVec 32 := Scalar.addi v2 c15_i32
  let c16_i32_129 : BitVec 32 := 16#32
  let c0_i32_130 : BitVec 32 := 0#32
  let v193 : BitVec 1 := Scalar.cmpi .eq c16_i32_129 c0_i32_130
  let c1_i32_131 : BitVec 32 := 1#32
  let v194 : BitVec 32 := Scalar.select v193 c1_i32_131 c16_i32_129
  let v195 : BitVec 32 := Scalar.remsi v192 v194
  let c0_i32_133 : BitVec 32 := 0#32
  let v197 : BitVec 1 := Scalar.cmpi .slt v195 c0_i32_133
  let c0_i32_134 : BitVec 32 := 0#32
  let v198 : BitVec 1 := Scalar.cmpi .slt v194 c0_i32_134
  let v199 : BitVec 1 := Scalar.xori v197 v198
  let c0_i32_132 : BitVec 32 := 0#32
  let v196 : BitVec 1 := Scalar.cmpi .ne v195 c0_i32_132
  let v200 : BitVec 1 := Scalar.andi v199 v196
  let v201 : BitVec 32 := Scalar.addi v195 v194
  let v202 : BitVec 32 := Scalar.select v200 v201 v195
  let c1_i32_136 : BitVec 32 := 1#32
  let v203 : BitVec 32 := Scalar.muli v202 c1_i32_136
  let v204 : BitVec 32 := Scalar.addi c0_i32_137 v203
  v204.toNat
def k0_off1 (d0 : Dev nD) (c0_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.subi v2 c0_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c256_i32 : BitVec 32 := 256#32
  let v216 : BitVec 32 := Scalar.muli v215 c256_i32
  let c0_i32_150 : BitVec 32 := 0#32
  ![v216.toNat, 0]
def k0_off2 (d0 : Dev nD) (c1_i32_164 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c1_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  ![v249.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_174 : BitVec 32 := 0#32
  let c0_i32_175 : BitVec 32 := 0#32
  ![v2.toNat, 0, 0]
def k0_off5 (d0 : Dev nD) (c1_i32_164 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v239 : BitVec 32 := Scalar.addi v2 c1_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  let c256_i32_171 : BitVec 32 := 256#32
  let v250 : BitVec 32 := Scalar.muli v249 c256_i32_171
  let c0_i32_176 : BitVec 32 := 0#32
  ![v250.toNat, 0]
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_164 : BitVec 32 := 1#32
  let v239 : BitVec 32 := Scalar.addi v2 c1_i32_164
  let c16_i32_165 : BitVec 32 := 16#32
  let c0_i32_166 : BitVec 32 := 0#32
  let v240 : BitVec 1 := Scalar.cmpi .eq c16_i32_165 c0_i32_166
  let c1_i32_167 : BitVec 32 := 1#32
  let v241 : BitVec 32 := Scalar.select v240 c1_i32_167 c16_i32_165
  let v242 : BitVec 32 := Scalar.remsi v239 v241
  let c0_i32_169 : BitVec 32 := 0#32
  let v244 : BitVec 1 := Scalar.cmpi .slt v242 c0_i32_169
  let c0_i32_170 : BitVec 32 := 0#32
  let v245 : BitVec 1 := Scalar.cmpi .slt v241 c0_i32_170
  let v246 : BitVec 1 := Scalar.xori v244 v245
  let c0_i32_168 : BitVec 32 := 0#32
  let v243 : BitVec 1 := Scalar.cmpi .ne v242 c0_i32_168
  let v247 : BitVec 1 := Scalar.andi v246 v243
  let v248 : BitVec 32 := Scalar.addi v242 v241
  let v249 : BitVec 32 := Scalar.select v247 v248 v242
  let c1_i32_172 : BitVec 32 := 1#32
  let v251 : BitVec 32 := Scalar.muli v249 c1_i32_172
  let v252 : BitVec 32 := Scalar.addi c0_i32_173 v251
  v252.toNat
def k0_dev17 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_177 : BitVec 32 := 2#32
  let v260 : BitVec 32 := Scalar.addi v2 c2_i32_177
  let c16_i32_178 : BitVec 32 := 16#32
  let c0_i32_179 : BitVec 32 := 0#32
  let v261 : BitVec 1 := Scalar.cmpi .eq c16_i32_178 c0_i32_179
  let c1_i32_180 : BitVec 32 := 1#32
  let v262 : BitVec 32 := Scalar.select v261 c1_i32_180 c16_i32_178
  let v263 : BitVec 32 := Scalar.remsi v260 v262
  let c0_i32_182 : BitVec 32 := 0#32
  let v265 : BitVec 1 := Scalar.cmpi .slt v263 c0_i32_182
  let c0_i32_183 : BitVec 32 := 0#32
  let v266 : BitVec 1 := Scalar.cmpi .slt v262 c0_i32_183
  let v267 : BitVec 1 := Scalar.xori v265 v266
  let c0_i32_181 : BitVec 32 := 0#32
  let v264 : BitVec 1 := Scalar.cmpi .ne v263 c0_i32_181
  let v268 : BitVec 1 := Scalar.andi v267 v264
  let v269 : BitVec 32 := Scalar.addi v263 v262
  let v270 : BitVec 32 := Scalar.select v268 v269 v263
  let c1_i32_185 : BitVec 32 := 1#32
  let v272 : BitVec 32 := Scalar.muli v270 c1_i32_185
  let v273 : BitVec 32 := Scalar.addi c0_i32_186 v272
  v273.toNat
def k0_dev18 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_190 : BitVec 32 := 3#32
  let v281 : BitVec 32 := Scalar.addi v2 c3_i32_190
  let c16_i32_191 : BitVec 32 := 16#32
  let c0_i32_192 : BitVec 32 := 0#32
  let v282 : BitVec 1 := Scalar.cmpi .eq c16_i32_191 c0_i32_192
  let c1_i32_193 : BitVec 32 := 1#32
  let v283 : BitVec 32 := Scalar.select v282 c1_i32_193 c16_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c1_i32_198 : BitVec 32 := 1#32
  let v293 : BitVec 32 := Scalar.muli v291 c1_i32_198
  let v294 : BitVec 32 := Scalar.addi c0_i32_199 v293
  v294.toNat
def k0_dev19 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_203 : BitVec 32 := 4#32
  let v302 : BitVec 32 := Scalar.addi v2 c4_i32_203
  let c16_i32_204 : BitVec 32 := 16#32
  let c0_i32_205 : BitVec 32 := 0#32
  let v303 : BitVec 1 := Scalar.cmpi .eq c16_i32_204 c0_i32_205
  let c1_i32_206 : BitVec 32 := 1#32
  let v304 : BitVec 32 := Scalar.select v303 c1_i32_206 c16_i32_204
  let v305 : BitVec 32 := Scalar.remsi v302 v304
  let c0_i32_208 : BitVec 32 := 0#32
  let v307 : BitVec 1 := Scalar.cmpi .slt v305 c0_i32_208
  let c0_i32_209 : BitVec 32 := 0#32
  let v308 : BitVec 1 := Scalar.cmpi .slt v304 c0_i32_209
  let v309 : BitVec 1 := Scalar.xori v307 v308
  let c0_i32_207 : BitVec 32 := 0#32
  let v306 : BitVec 1 := Scalar.cmpi .ne v305 c0_i32_207
  let v310 : BitVec 1 := Scalar.andi v309 v306
  let v311 : BitVec 32 := Scalar.addi v305 v304
  let v312 : BitVec 32 := Scalar.select v310 v311 v305
  let c1_i32_211 : BitVec 32 := 1#32
  let v314 : BitVec 32 := Scalar.muli v312 c1_i32_211
  let v315 : BitVec 32 := Scalar.addi c0_i32_212 v314
  v315.toNat
def k0_dev20 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_216 : BitVec 32 := 5#32
  let v323 : BitVec 32 := Scalar.addi v2 c5_i32_216
  let c16_i32_217 : BitVec 32 := 16#32
  let c0_i32_218 : BitVec 32 := 0#32
  let v324 : BitVec 1 := Scalar.cmpi .eq c16_i32_217 c0_i32_218
  let c1_i32_219 : BitVec 32 := 1#32
  let v325 : BitVec 32 := Scalar.select v324 c1_i32_219 c16_i32_217
  let v326 : BitVec 32 := Scalar.remsi v323 v325
  let c0_i32_221 : BitVec 32 := 0#32
  let v328 : BitVec 1 := Scalar.cmpi .slt v326 c0_i32_221
  let c0_i32_222 : BitVec 32 := 0#32
  let v329 : BitVec 1 := Scalar.cmpi .slt v325 c0_i32_222
  let v330 : BitVec 1 := Scalar.xori v328 v329
  let c0_i32_220 : BitVec 32 := 0#32
  let v327 : BitVec 1 := Scalar.cmpi .ne v326 c0_i32_220
  let v331 : BitVec 1 := Scalar.andi v330 v327
  let v332 : BitVec 32 := Scalar.addi v326 v325
  let v333 : BitVec 32 := Scalar.select v331 v332 v326
  let c1_i32_224 : BitVec 32 := 1#32
  let v335 : BitVec 32 := Scalar.muli v333 c1_i32_224
  let v336 : BitVec 32 := Scalar.addi c0_i32_225 v335
  v336.toNat
def k0_dev21 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_229 : BitVec 32 := 6#32
  let v344 : BitVec 32 := Scalar.addi v2 c6_i32_229
  let c16_i32_230 : BitVec 32 := 16#32
  let c0_i32_231 : BitVec 32 := 0#32
  let v345 : BitVec 1 := Scalar.cmpi .eq c16_i32_230 c0_i32_231
  let c1_i32_232 : BitVec 32 := 1#32
  let v346 : BitVec 32 := Scalar.select v345 c1_i32_232 c16_i32_230
  let v347 : BitVec 32 := Scalar.remsi v344 v346
  let c0_i32_234 : BitVec 32 := 0#32
  let v349 : BitVec 1 := Scalar.cmpi .slt v347 c0_i32_234
  let c0_i32_235 : BitVec 32 := 0#32
  let v350 : BitVec 1 := Scalar.cmpi .slt v346 c0_i32_235
  let v351 : BitVec 1 := Scalar.xori v349 v350
  let c0_i32_233 : BitVec 32 := 0#32
  let v348 : BitVec 1 := Scalar.cmpi .ne v347 c0_i32_233
  let v352 : BitVec 1 := Scalar.andi v351 v348
  let v353 : BitVec 32 := Scalar.addi v347 v346
  let v354 : BitVec 32 := Scalar.select v352 v353 v347
  let c1_i32_237 : BitVec 32 := 1#32
  let v356 : BitVec 32 := Scalar.muli v354 c1_i32_237
  let v357 : BitVec 32 := Scalar.addi c0_i32_238 v356
  v357.toNat
def k0_dev22 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_242 : BitVec 32 := 7#32
  let v365 : BitVec 32 := Scalar.addi v2 c7_i32_242
  let c16_i32_243 : BitVec 32 := 16#32
  let c0_i32_244 : BitVec 32 := 0#32
  let v366 : BitVec 1 := Scalar.cmpi .eq c16_i32_243 c0_i32_244
  let c1_i32_245 : BitVec 32 := 1#32
  let v367 : BitVec 32 := Scalar.select v366 c1_i32_245 c16_i32_243
  let v368 : BitVec 32 := Scalar.remsi v365 v367
  let c0_i32_247 : BitVec 32 := 0#32
  let v370 : BitVec 1 := Scalar.cmpi .slt v368 c0_i32_247
  let c0_i32_248 : BitVec 32 := 0#32
  let v371 : BitVec 1 := Scalar.cmpi .slt v367 c0_i32_248
  let v372 : BitVec 1 := Scalar.xori v370 v371
  let c0_i32_246 : BitVec 32 := 0#32
  let v369 : BitVec 1 := Scalar.cmpi .ne v368 c0_i32_246
  let v373 : BitVec 1 := Scalar.andi v372 v369
  let v374 : BitVec 32 := Scalar.addi v368 v367
  let v375 : BitVec 32 := Scalar.select v373 v374 v368
  let c1_i32_250 : BitVec 32 := 1#32
  let v377 : BitVec 32 := Scalar.muli v375 c1_i32_250
  let v378 : BitVec 32 := Scalar.addi c0_i32_251 v377
  v378.toNat
def k0_dev23 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_255 : BitVec 32 := 8#32
  let v386 : BitVec 32 := Scalar.addi v2 c8_i32_255
  let c16_i32_256 : BitVec 32 := 16#32
  let c0_i32_257 : BitVec 32 := 0#32
  let v387 : BitVec 1 := Scalar.cmpi .eq c16_i32_256 c0_i32_257
  let c1_i32_258 : BitVec 32 := 1#32
  let v388 : BitVec 32 := Scalar.select v387 c1_i32_258 c16_i32_256
  let v389 : BitVec 32 := Scalar.remsi v386 v388
  let c0_i32_260 : BitVec 32 := 0#32
  let v391 : BitVec 1 := Scalar.cmpi .slt v389 c0_i32_260
  let c0_i32_261 : BitVec 32 := 0#32
  let v392 : BitVec 1 := Scalar.cmpi .slt v388 c0_i32_261
  let v393 : BitVec 1 := Scalar.xori v391 v392
  let c0_i32_259 : BitVec 32 := 0#32
  let v390 : BitVec 1 := Scalar.cmpi .ne v389 c0_i32_259
  let v394 : BitVec 1 := Scalar.andi v393 v390
  let v395 : BitVec 32 := Scalar.addi v389 v388
  let v396 : BitVec 32 := Scalar.select v394 v395 v389
  let c1_i32_263 : BitVec 32 := 1#32
  let v398 : BitVec 32 := Scalar.muli v396 c1_i32_263
  let v399 : BitVec 32 := Scalar.addi c0_i32_264 v398
  v399.toNat
def k0_dev24 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_268 : BitVec 32 := 9#32
  let v407 : BitVec 32 := Scalar.addi v2 c9_i32_268
  let c16_i32_269 : BitVec 32 := 16#32
  let c0_i32_270 : BitVec 32 := 0#32
  let v408 : BitVec 1 := Scalar.cmpi .eq c16_i32_269 c0_i32_270
  let c1_i32_271 : BitVec 32 := 1#32
  let v409 : BitVec 32 := Scalar.select v408 c1_i32_271 c16_i32_269
  let v410 : BitVec 32 := Scalar.remsi v407 v409
  let c0_i32_273 : BitVec 32 := 0#32
  let v412 : BitVec 1 := Scalar.cmpi .slt v410 c0_i32_273
  let c0_i32_274 : BitVec 32 := 0#32
  let v413 : BitVec 1 := Scalar.cmpi .slt v409 c0_i32_274
  let v414 : BitVec 1 := Scalar.xori v412 v413
  let c0_i32_272 : BitVec 32 := 0#32
  let v411 : BitVec 1 := Scalar.cmpi .ne v410 c0_i32_272
  let v415 : BitVec 1 := Scalar.andi v414 v411
  let v416 : BitVec 32 := Scalar.addi v410 v409
  let v417 : BitVec 32 := Scalar.select v415 v416 v410
  let c1_i32_276 : BitVec 32 := 1#32
  let v419 : BitVec 32 := Scalar.muli v417 c1_i32_276
  let v420 : BitVec 32 := Scalar.addi c0_i32_277 v419
  v420.toNat
def k0_dev25 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_281 : BitVec 32 := 10#32
  let v428 : BitVec 32 := Scalar.addi v2 c10_i32_281
  let c16_i32_282 : BitVec 32 := 16#32
  let c0_i32_283 : BitVec 32 := 0#32
  let v429 : BitVec 1 := Scalar.cmpi .eq c16_i32_282 c0_i32_283
  let c1_i32_284 : BitVec 32 := 1#32
  let v430 : BitVec 32 := Scalar.select v429 c1_i32_284 c16_i32_282
  let v431 : BitVec 32 := Scalar.remsi v428 v430
  let c0_i32_286 : BitVec 32 := 0#32
  let v433 : BitVec 1 := Scalar.cmpi .slt v431 c0_i32_286
  let c0_i32_287 : BitVec 32 := 0#32
  let v434 : BitVec 1 := Scalar.cmpi .slt v430 c0_i32_287
  let v435 : BitVec 1 := Scalar.xori v433 v434
  let c0_i32_285 : BitVec 32 := 0#32
  let v432 : BitVec 1 := Scalar.cmpi .ne v431 c0_i32_285
  let v436 : BitVec 1 := Scalar.andi v435 v432
  let v437 : BitVec 32 := Scalar.addi v431 v430
  let v438 : BitVec 32 := Scalar.select v436 v437 v431
  let c1_i32_289 : BitVec 32 := 1#32
  let v440 : BitVec 32 := Scalar.muli v438 c1_i32_289
  let v441 : BitVec 32 := Scalar.addi c0_i32_290 v440
  v441.toNat
def k0_dev26 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_294 : BitVec 32 := 11#32
  let v449 : BitVec 32 := Scalar.addi v2 c11_i32_294
  let c16_i32_295 : BitVec 32 := 16#32
  let c0_i32_296 : BitVec 32 := 0#32
  let v450 : BitVec 1 := Scalar.cmpi .eq c16_i32_295 c0_i32_296
  let c1_i32_297 : BitVec 32 := 1#32
  let v451 : BitVec 32 := Scalar.select v450 c1_i32_297 c16_i32_295
  let v452 : BitVec 32 := Scalar.remsi v449 v451
  let c0_i32_299 : BitVec 32 := 0#32
  let v454 : BitVec 1 := Scalar.cmpi .slt v452 c0_i32_299
  let c0_i32_300 : BitVec 32 := 0#32
  let v455 : BitVec 1 := Scalar.cmpi .slt v451 c0_i32_300
  let v456 : BitVec 1 := Scalar.xori v454 v455
  let c0_i32_298 : BitVec 32 := 0#32
  let v453 : BitVec 1 := Scalar.cmpi .ne v452 c0_i32_298
  let v457 : BitVec 1 := Scalar.andi v456 v453
  let v458 : BitVec 32 := Scalar.addi v452 v451
  let v459 : BitVec 32 := Scalar.select v457 v458 v452
  let c1_i32_302 : BitVec 32 := 1#32
  let v461 : BitVec 32 := Scalar.muli v459 c1_i32_302
  let v462 : BitVec 32 := Scalar.addi c0_i32_303 v461
  v462.toNat
def k0_dev27 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_307 : BitVec 32 := 12#32
  let v470 : BitVec 32 := Scalar.addi v2 c12_i32_307
  let c16_i32_308 : BitVec 32 := 16#32
  let c0_i32_309 : BitVec 32 := 0#32
  let v471 : BitVec 1 := Scalar.cmpi .eq c16_i32_308 c0_i32_309
  let c1_i32_310 : BitVec 32 := 1#32
  let v472 : BitVec 32 := Scalar.select v471 c1_i32_310 c16_i32_308
  let v473 : BitVec 32 := Scalar.remsi v470 v472
  let c0_i32_312 : BitVec 32 := 0#32
  let v475 : BitVec 1 := Scalar.cmpi .slt v473 c0_i32_312
  let c0_i32_313 : BitVec 32 := 0#32
  let v476 : BitVec 1 := Scalar.cmpi .slt v472 c0_i32_313
  let v477 : BitVec 1 := Scalar.xori v475 v476
  let c0_i32_311 : BitVec 32 := 0#32
  let v474 : BitVec 1 := Scalar.cmpi .ne v473 c0_i32_311
  let v478 : BitVec 1 := Scalar.andi v477 v474
  let v479 : BitVec 32 := Scalar.addi v473 v472
  let v480 : BitVec 32 := Scalar.select v478 v479 v473
  let c1_i32_315 : BitVec 32 := 1#32
  let v482 : BitVec 32 := Scalar.muli v480 c1_i32_315
  let v483 : BitVec 32 := Scalar.addi c0_i32_316 v482
  v483.toNat
def k0_dev28 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_320 : BitVec 32 := 13#32
  let v491 : BitVec 32 := Scalar.addi v2 c13_i32_320
  let c16_i32_321 : BitVec 32 := 16#32
  let c0_i32_322 : BitVec 32 := 0#32
  let v492 : BitVec 1 := Scalar.cmpi .eq c16_i32_321 c0_i32_322
  let c1_i32_323 : BitVec 32 := 1#32
  let v493 : BitVec 32 := Scalar.select v492 c1_i32_323 c16_i32_321
  let v494 : BitVec 32 := Scalar.remsi v491 v493
  let c0_i32_325 : BitVec 32 := 0#32
  let v496 : BitVec 1 := Scalar.cmpi .slt v494 c0_i32_325
  let c0_i32_326 : BitVec 32 := 0#32
  let v497 : BitVec 1 := Scalar.cmpi .slt v493 c0_i32_326
  let v498 : BitVec 1 := Scalar.xori v496 v497
  let c0_i32_324 : BitVec 32 := 0#32
  let v495 : BitVec 1 := Scalar.cmpi .ne v494 c0_i32_324
  let v499 : BitVec 1 := Scalar.andi v498 v495
  let v500 : BitVec 32 := Scalar.addi v494 v493
  let v501 : BitVec 32 := Scalar.select v499 v500 v494
  let c1_i32_328 : BitVec 32 := 1#32
  let v503 : BitVec 32 := Scalar.muli v501 c1_i32_328
  let v504 : BitVec 32 := Scalar.addi c0_i32_329 v503
  v504.toNat
def k0_dev29 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_333 : BitVec 32 := 14#32
  let v512 : BitVec 32 := Scalar.addi v2 c14_i32_333
  let c16_i32_334 : BitVec 32 := 16#32
  let c0_i32_335 : BitVec 32 := 0#32
  let v513 : BitVec 1 := Scalar.cmpi .eq c16_i32_334 c0_i32_335
  let c1_i32_336 : BitVec 32 := 1#32
  let v514 : BitVec 32 := Scalar.select v513 c1_i32_336 c16_i32_334
  let v515 : BitVec 32 := Scalar.remsi v512 v514
  let c0_i32_338 : BitVec 32 := 0#32
  let v517 : BitVec 1 := Scalar.cmpi .slt v515 c0_i32_338
  let c0_i32_339 : BitVec 32 := 0#32
  let v518 : BitVec 1 := Scalar.cmpi .slt v514 c0_i32_339
  let v519 : BitVec 1 := Scalar.xori v517 v518
  let c0_i32_337 : BitVec 32 := 0#32
  let v516 : BitVec 1 := Scalar.cmpi .ne v515 c0_i32_337
  let v520 : BitVec 1 := Scalar.andi v519 v516
  let v521 : BitVec 32 := Scalar.addi v515 v514
  let v522 : BitVec 32 := Scalar.select v520 v521 v515
  let c1_i32_341 : BitVec 32 := 1#32
  let v524 : BitVec 32 := Scalar.muli v522 c1_i32_341
  let v525 : BitVec 32 := Scalar.addi c0_i32_342 v524
  v525.toNat
def k0_dev30 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_346 : BitVec 32 := 15#32
  let v533 : BitVec 32 := Scalar.addi v2 c15_i32_346
  let c16_i32_347 : BitVec 32 := 16#32
  let c0_i32_348 : BitVec 32 := 0#32
  let v534 : BitVec 1 := Scalar.cmpi .eq c16_i32_347 c0_i32_348
  let c1_i32_349 : BitVec 32 := 1#32
  let v535 : BitVec 32 := Scalar.select v534 c1_i32_349 c16_i32_347
  let v536 : BitVec 32 := Scalar.remsi v533 v535
  let c0_i32_351 : BitVec 32 := 0#32
  let v538 : BitVec 1 := Scalar.cmpi .slt v536 c0_i32_351
  let c0_i32_352 : BitVec 32 := 0#32
  let v539 : BitVec 1 := Scalar.cmpi .slt v535 c0_i32_352
  let v540 : BitVec 1 := Scalar.xori v538 v539
  let c0_i32_350 : BitVec 32 := 0#32
  let v537 : BitVec 1 := Scalar.cmpi .ne v536 c0_i32_350
  let v541 : BitVec 1 := Scalar.andi v540 v537
  let v542 : BitVec 32 := Scalar.addi v536 v535
  let v543 : BitVec 32 := Scalar.select v541 v542 v536
  let c1_i32_354 : BitVec 32 := 1#32
  let v545 : BitVec 32 := Scalar.muli v543 c1_i32_354
  let v546 : BitVec 32 := Scalar.addi c0_i32_355 v545
  v546.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_385 : BitVec 32 := 256#32
  let v588 : BitVec 32 := Scalar.muli v2 c256_i32_385
  let v589 : Index := Scalar.indexCast v588
  let c0_386 : Index := 0#32
  ![v589.toNat, 0]
def k0_off7 (d0 : Dev nD) (c1_i32_392 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v596 : BitVec 32 := Scalar.subi v2 c1_i32_392
  let c16_i32_393 : BitVec 32 := 16#32
  let c0_i32_394 : BitVec 32 := 0#32
  let v597 : BitVec 1 := Scalar.cmpi .eq c16_i32_393 c0_i32_394
  let c1_i32_395 : BitVec 32 := 1#32
  let v598 : BitVec 32 := Scalar.select v597 c1_i32_395 c16_i32_393
  let v599 : BitVec 32 := Scalar.remsi v596 v598
  let c0_i32_397 : BitVec 32 := 0#32
  let v601 : BitVec 1 := Scalar.cmpi .slt v599 c0_i32_397
  let c0_i32_398 : BitVec 32 := 0#32
  let v602 : BitVec 1 := Scalar.cmpi .slt v598 c0_i32_398
  let v603 : BitVec 1 := Scalar.xori v601 v602
  let c0_i32_396 : BitVec 32 := 0#32
  let v600 : BitVec 1 := Scalar.cmpi .ne v599 c0_i32_396
  let v604 : BitVec 1 := Scalar.andi v603 v600
  let v605 : BitVec 32 := Scalar.addi v599 v598
  let v606 : BitVec 32 := Scalar.select v604 v605 v599
  ![v606.toNat]
def k0_off8 (d0 : Dev nD) (c1_i32_392 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v596 : BitVec 32 := Scalar.subi v2 c1_i32_392
  let c16_i32_393 : BitVec 32 := 16#32
  let c0_i32_394 : BitVec 32 := 0#32
  let v597 : BitVec 1 := Scalar.cmpi .eq c16_i32_393 c0_i32_394
  let c1_i32_395 : BitVec 32 := 1#32
  let v598 : BitVec 32 := Scalar.select v597 c1_i32_395 c16_i32_393
  let v599 : BitVec 32 := Scalar.remsi v596 v598
  let c0_i32_397 : BitVec 32 := 0#32
  let v601 : BitVec 1 := Scalar.cmpi .slt v599 c0_i32_397
  let c0_i32_398 : BitVec 32 := 0#32
  let v602 : BitVec 1 := Scalar.cmpi .slt v598 c0_i32_398
  let v603 : BitVec 1 := Scalar.xori v601 v602
  let c0_i32_396 : BitVec 32 := 0#32
  let v600 : BitVec 1 := Scalar.cmpi .ne v599 c0_i32_396
  let v604 : BitVec 1 := Scalar.andi v603 v600
  let v605 : BitVec 32 := Scalar.addi v599 v598
  let v606 : BitVec 32 := Scalar.select v604 v605 v599
  let c0_i32_427 : BitVec 32 := 0#32
  let c0_i32_428 : BitVec 32 := 0#32
  ![v606.toNat, 0, 0]
def k0_off9 (d0 : Dev nD) (c1_i32_392 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v596 : BitVec 32 := Scalar.subi v2 c1_i32_392
  let c16_i32_393 : BitVec 32 := 16#32
  let c0_i32_394 : BitVec 32 := 0#32
  let v597 : BitVec 1 := Scalar.cmpi .eq c16_i32_393 c0_i32_394
  let c1_i32_395 : BitVec 32 := 1#32
  let v598 : BitVec 32 := Scalar.select v597 c1_i32_395 c16_i32_393
  let v599 : BitVec 32 := Scalar.remsi v596 v598
  let c0_i32_397 : BitVec 32 := 0#32
  let v601 : BitVec 1 := Scalar.cmpi .slt v599 c0_i32_397
  let c0_i32_398 : BitVec 32 := 0#32
  let v602 : BitVec 1 := Scalar.cmpi .slt v598 c0_i32_398
  let v603 : BitVec 1 := Scalar.xori v601 v602
  let c0_i32_396 : BitVec 32 := 0#32
  let v600 : BitVec 1 := Scalar.cmpi .ne v599 c0_i32_396
  let v604 : BitVec 1 := Scalar.andi v603 v600
  let v605 : BitVec 32 := Scalar.addi v599 v598
  let v606 : BitVec 32 := Scalar.select v604 v605 v599
  let v648 : Index := Scalar.indexCast v606
  let c0_431 : Index := 0#32
  let c0_432 : Index := 0#32
  ![v648.toNat, 0, 0]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1517 : Index := Scalar.indexCast v2
  let c0_1105 : Index := 0#32
  let c0_1106 : Index := 0#32
  ![v1517.toNat, 0, 0]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1116 : BitVec 32 := 0#32
  let c0_i32_1117 : BitVec 32 := 0#32
  ![v2.toNat, 0, 0]
def k0_dev31 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1107 : BitVec 32 := 1#32
  let v1521 : BitVec 32 := Scalar.addi v2 c1_i32_1107
  let c16_i32_1108 : BitVec 32 := 16#32
  let c0_i32_1109 : BitVec 32 := 0#32
  let v1522 : BitVec 1 := Scalar.cmpi .eq c16_i32_1108 c0_i32_1109
  let c1_i32_1110 : BitVec 32 := 1#32
  let v1523 : BitVec 32 := Scalar.select v1522 c1_i32_1110 c16_i32_1108
  let v1524 : BitVec 32 := Scalar.remsi v1521 v1523
  let c0_i32_1112 : BitVec 32 := 0#32
  let v1526 : BitVec 1 := Scalar.cmpi .slt v1524 c0_i32_1112
  let c0_i32_1113 : BitVec 32 := 0#32
  let v1527 : BitVec 1 := Scalar.cmpi .slt v1523 c0_i32_1113
  let v1528 : BitVec 1 := Scalar.xori v1526 v1527
  let c0_i32_1111 : BitVec 32 := 0#32
  let v1525 : BitVec 1 := Scalar.cmpi .ne v1524 c0_i32_1111
  let v1529 : BitVec 1 := Scalar.andi v1528 v1525
  let v1530 : BitVec 32 := Scalar.addi v1524 v1523
  let v1531 : BitVec 32 := Scalar.select v1529 v1530 v1524
  let c1_i32_1114 : BitVec 32 := 1#32
  let v1532 : BitVec 32 := Scalar.muli v1531 c1_i32_1114
  let v1533 : BitVec 32 := Scalar.addi c0_i32_1115 v1532
  v1533.toNat
def k0_dev32 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1120 : BitVec 32 := 2#32
  let v1542 : BitVec 32 := Scalar.addi v2 c2_i32_1120
  let c16_i32_1121 : BitVec 32 := 16#32
  let c0_i32_1122 : BitVec 32 := 0#32
  let v1543 : BitVec 1 := Scalar.cmpi .eq c16_i32_1121 c0_i32_1122
  let c1_i32_1123 : BitVec 32 := 1#32
  let v1544 : BitVec 32 := Scalar.select v1543 c1_i32_1123 c16_i32_1121
  let v1545 : BitVec 32 := Scalar.remsi v1542 v1544
  let c0_i32_1125 : BitVec 32 := 0#32
  let v1547 : BitVec 1 := Scalar.cmpi .slt v1545 c0_i32_1125
  let c0_i32_1126 : BitVec 32 := 0#32
  let v1548 : BitVec 1 := Scalar.cmpi .slt v1544 c0_i32_1126
  let v1549 : BitVec 1 := Scalar.xori v1547 v1548
  let c0_i32_1124 : BitVec 32 := 0#32
  let v1546 : BitVec 1 := Scalar.cmpi .ne v1545 c0_i32_1124
  let v1550 : BitVec 1 := Scalar.andi v1549 v1546
  let v1551 : BitVec 32 := Scalar.addi v1545 v1544
  let v1552 : BitVec 32 := Scalar.select v1550 v1551 v1545
  let c1_i32_1127 : BitVec 32 := 1#32
  let v1553 : BitVec 32 := Scalar.muli v1552 c1_i32_1127
  let v1554 : BitVec 32 := Scalar.addi c0_i32_1128 v1553
  v1554.toNat
def k0_dev33 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1133 : BitVec 32 := 3#32
  let v1563 : BitVec 32 := Scalar.addi v2 c3_i32_1133
  let c16_i32_1134 : BitVec 32 := 16#32
  let c0_i32_1135 : BitVec 32 := 0#32
  let v1564 : BitVec 1 := Scalar.cmpi .eq c16_i32_1134 c0_i32_1135
  let c1_i32_1136 : BitVec 32 := 1#32
  let v1565 : BitVec 32 := Scalar.select v1564 c1_i32_1136 c16_i32_1134
  let v1566 : BitVec 32 := Scalar.remsi v1563 v1565
  let c0_i32_1138 : BitVec 32 := 0#32
  let v1568 : BitVec 1 := Scalar.cmpi .slt v1566 c0_i32_1138
  let c0_i32_1139 : BitVec 32 := 0#32
  let v1569 : BitVec 1 := Scalar.cmpi .slt v1565 c0_i32_1139
  let v1570 : BitVec 1 := Scalar.xori v1568 v1569
  let c0_i32_1137 : BitVec 32 := 0#32
  let v1567 : BitVec 1 := Scalar.cmpi .ne v1566 c0_i32_1137
  let v1571 : BitVec 1 := Scalar.andi v1570 v1567
  let v1572 : BitVec 32 := Scalar.addi v1566 v1565
  let v1573 : BitVec 32 := Scalar.select v1571 v1572 v1566
  let c1_i32_1140 : BitVec 32 := 1#32
  let v1574 : BitVec 32 := Scalar.muli v1573 c1_i32_1140
  let v1575 : BitVec 32 := Scalar.addi c0_i32_1141 v1574
  v1575.toNat
def k0_dev34 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1146 : BitVec 32 := 4#32
  let v1584 : BitVec 32 := Scalar.addi v2 c4_i32_1146
  let c16_i32_1147 : BitVec 32 := 16#32
  let c0_i32_1148 : BitVec 32 := 0#32
  let v1585 : BitVec 1 := Scalar.cmpi .eq c16_i32_1147 c0_i32_1148
  let c1_i32_1149 : BitVec 32 := 1#32
  let v1586 : BitVec 32 := Scalar.select v1585 c1_i32_1149 c16_i32_1147
  let v1587 : BitVec 32 := Scalar.remsi v1584 v1586
  let c0_i32_1151 : BitVec 32 := 0#32
  let v1589 : BitVec 1 := Scalar.cmpi .slt v1587 c0_i32_1151
  let c0_i32_1152 : BitVec 32 := 0#32
  let v1590 : BitVec 1 := Scalar.cmpi .slt v1586 c0_i32_1152
  let v1591 : BitVec 1 := Scalar.xori v1589 v1590
  let c0_i32_1150 : BitVec 32 := 0#32
  let v1588 : BitVec 1 := Scalar.cmpi .ne v1587 c0_i32_1150
  let v1592 : BitVec 1 := Scalar.andi v1591 v1588
  let v1593 : BitVec 32 := Scalar.addi v1587 v1586
  let v1594 : BitVec 32 := Scalar.select v1592 v1593 v1587
  let c1_i32_1153 : BitVec 32 := 1#32
  let v1595 : BitVec 32 := Scalar.muli v1594 c1_i32_1153
  let v1596 : BitVec 32 := Scalar.addi c0_i32_1154 v1595
  v1596.toNat
def k0_dev35 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1159 : BitVec 32 := 5#32
  let v1605 : BitVec 32 := Scalar.addi v2 c5_i32_1159
  let c16_i32_1160 : BitVec 32 := 16#32
  let c0_i32_1161 : BitVec 32 := 0#32
  let v1606 : BitVec 1 := Scalar.cmpi .eq c16_i32_1160 c0_i32_1161
  let c1_i32_1162 : BitVec 32 := 1#32
  let v1607 : BitVec 32 := Scalar.select v1606 c1_i32_1162 c16_i32_1160
  let v1608 : BitVec 32 := Scalar.remsi v1605 v1607
  let c0_i32_1164 : BitVec 32 := 0#32
  let v1610 : BitVec 1 := Scalar.cmpi .slt v1608 c0_i32_1164
  let c0_i32_1165 : BitVec 32 := 0#32
  let v1611 : BitVec 1 := Scalar.cmpi .slt v1607 c0_i32_1165
  let v1612 : BitVec 1 := Scalar.xori v1610 v1611
  let c0_i32_1163 : BitVec 32 := 0#32
  let v1609 : BitVec 1 := Scalar.cmpi .ne v1608 c0_i32_1163
  let v1613 : BitVec 1 := Scalar.andi v1612 v1609
  let v1614 : BitVec 32 := Scalar.addi v1608 v1607
  let v1615 : BitVec 32 := Scalar.select v1613 v1614 v1608
  let c1_i32_1166 : BitVec 32 := 1#32
  let v1616 : BitVec 32 := Scalar.muli v1615 c1_i32_1166
  let v1617 : BitVec 32 := Scalar.addi c0_i32_1167 v1616
  v1617.toNat
def k0_dev36 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1172 : BitVec 32 := 6#32
  let v1626 : BitVec 32 := Scalar.addi v2 c6_i32_1172
  let c16_i32_1173 : BitVec 32 := 16#32
  let c0_i32_1174 : BitVec 32 := 0#32
  let v1627 : BitVec 1 := Scalar.cmpi .eq c16_i32_1173 c0_i32_1174
  let c1_i32_1175 : BitVec 32 := 1#32
  let v1628 : BitVec 32 := Scalar.select v1627 c1_i32_1175 c16_i32_1173
  let v1629 : BitVec 32 := Scalar.remsi v1626 v1628
  let c0_i32_1177 : BitVec 32 := 0#32
  let v1631 : BitVec 1 := Scalar.cmpi .slt v1629 c0_i32_1177
  let c0_i32_1178 : BitVec 32 := 0#32
  let v1632 : BitVec 1 := Scalar.cmpi .slt v1628 c0_i32_1178
  let v1633 : BitVec 1 := Scalar.xori v1631 v1632
  let c0_i32_1176 : BitVec 32 := 0#32
  let v1630 : BitVec 1 := Scalar.cmpi .ne v1629 c0_i32_1176
  let v1634 : BitVec 1 := Scalar.andi v1633 v1630
  let v1635 : BitVec 32 := Scalar.addi v1629 v1628
  let v1636 : BitVec 32 := Scalar.select v1634 v1635 v1629
  let c1_i32_1179 : BitVec 32 := 1#32
  let v1637 : BitVec 32 := Scalar.muli v1636 c1_i32_1179
  let v1638 : BitVec 32 := Scalar.addi c0_i32_1180 v1637
  v1638.toNat
def k0_dev37 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1185 : BitVec 32 := 7#32
  let v1647 : BitVec 32 := Scalar.addi v2 c7_i32_1185
  let c16_i32_1186 : BitVec 32 := 16#32
  let c0_i32_1187 : BitVec 32 := 0#32
  let v1648 : BitVec 1 := Scalar.cmpi .eq c16_i32_1186 c0_i32_1187
  let c1_i32_1188 : BitVec 32 := 1#32
  let v1649 : BitVec 32 := Scalar.select v1648 c1_i32_1188 c16_i32_1186
  let v1650 : BitVec 32 := Scalar.remsi v1647 v1649
  let c0_i32_1190 : BitVec 32 := 0#32
  let v1652 : BitVec 1 := Scalar.cmpi .slt v1650 c0_i32_1190
  let c0_i32_1191 : BitVec 32 := 0#32
  let v1653 : BitVec 1 := Scalar.cmpi .slt v1649 c0_i32_1191
  let v1654 : BitVec 1 := Scalar.xori v1652 v1653
  let c0_i32_1189 : BitVec 32 := 0#32
  let v1651 : BitVec 1 := Scalar.cmpi .ne v1650 c0_i32_1189
  let v1655 : BitVec 1 := Scalar.andi v1654 v1651
  let v1656 : BitVec 32 := Scalar.addi v1650 v1649
  let v1657 : BitVec 32 := Scalar.select v1655 v1656 v1650
  let c1_i32_1192 : BitVec 32 := 1#32
  let v1658 : BitVec 32 := Scalar.muli v1657 c1_i32_1192
  let v1659 : BitVec 32 := Scalar.addi c0_i32_1193 v1658
  v1659.toNat
def k0_dev38 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1198 : BitVec 32 := 8#32
  let v1668 : BitVec 32 := Scalar.addi v2 c8_i32_1198
  let c16_i32_1199 : BitVec 32 := 16#32
  let c0_i32_1200 : BitVec 32 := 0#32
  let v1669 : BitVec 1 := Scalar.cmpi .eq c16_i32_1199 c0_i32_1200
  let c1_i32_1201 : BitVec 32 := 1#32
  let v1670 : BitVec 32 := Scalar.select v1669 c1_i32_1201 c16_i32_1199
  let v1671 : BitVec 32 := Scalar.remsi v1668 v1670
  let c0_i32_1203 : BitVec 32 := 0#32
  let v1673 : BitVec 1 := Scalar.cmpi .slt v1671 c0_i32_1203
  let c0_i32_1204 : BitVec 32 := 0#32
  let v1674 : BitVec 1 := Scalar.cmpi .slt v1670 c0_i32_1204
  let v1675 : BitVec 1 := Scalar.xori v1673 v1674
  let c0_i32_1202 : BitVec 32 := 0#32
  let v1672 : BitVec 1 := Scalar.cmpi .ne v1671 c0_i32_1202
  let v1676 : BitVec 1 := Scalar.andi v1675 v1672
  let v1677 : BitVec 32 := Scalar.addi v1671 v1670
  let v1678 : BitVec 32 := Scalar.select v1676 v1677 v1671
  let c1_i32_1205 : BitVec 32 := 1#32
  let v1679 : BitVec 32 := Scalar.muli v1678 c1_i32_1205
  let v1680 : BitVec 32 := Scalar.addi c0_i32_1206 v1679
  v1680.toNat
def k0_dev39 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1211 : BitVec 32 := 9#32
  let v1689 : BitVec 32 := Scalar.addi v2 c9_i32_1211
  let c16_i32_1212 : BitVec 32 := 16#32
  let c0_i32_1213 : BitVec 32 := 0#32
  let v1690 : BitVec 1 := Scalar.cmpi .eq c16_i32_1212 c0_i32_1213
  let c1_i32_1214 : BitVec 32 := 1#32
  let v1691 : BitVec 32 := Scalar.select v1690 c1_i32_1214 c16_i32_1212
  let v1692 : BitVec 32 := Scalar.remsi v1689 v1691
  let c0_i32_1216 : BitVec 32 := 0#32
  let v1694 : BitVec 1 := Scalar.cmpi .slt v1692 c0_i32_1216
  let c0_i32_1217 : BitVec 32 := 0#32
  let v1695 : BitVec 1 := Scalar.cmpi .slt v1691 c0_i32_1217
  let v1696 : BitVec 1 := Scalar.xori v1694 v1695
  let c0_i32_1215 : BitVec 32 := 0#32
  let v1693 : BitVec 1 := Scalar.cmpi .ne v1692 c0_i32_1215
  let v1697 : BitVec 1 := Scalar.andi v1696 v1693
  let v1698 : BitVec 32 := Scalar.addi v1692 v1691
  let v1699 : BitVec 32 := Scalar.select v1697 v1698 v1692
  let c1_i32_1218 : BitVec 32 := 1#32
  let v1700 : BitVec 32 := Scalar.muli v1699 c1_i32_1218
  let v1701 : BitVec 32 := Scalar.addi c0_i32_1219 v1700
  v1701.toNat
def k0_dev40 (d0 : Dev nD) : Nat :=
  let c0_i32_1232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1224 : BitVec 32 := 10#32
  let v1710 : BitVec 32 := Scalar.addi v2 c10_i32_1224
  let c16_i32_1225 : BitVec 32 := 16#32
  let c0_i32_1226 : BitVec 32 := 0#32
  let v1711 : BitVec 1 := Scalar.cmpi .eq c16_i32_1225 c0_i32_1226
  let c1_i32_1227 : BitVec 32 := 1#32
  let v1712 : BitVec 32 := Scalar.select v1711 c1_i32_1227 c16_i32_1225
  let v1713 : BitVec 32 := Scalar.remsi v1710 v1712
  let c0_i32_1229 : BitVec 32 := 0#32
  let v1715 : BitVec 1 := Scalar.cmpi .slt v1713 c0_i32_1229
  let c0_i32_1230 : BitVec 32 := 0#32
  let v1716 : BitVec 1 := Scalar.cmpi .slt v1712 c0_i32_1230
  let v1717 : BitVec 1 := Scalar.xori v1715 v1716
  let c0_i32_1228 : BitVec 32 := 0#32
  let v1714 : BitVec 1 := Scalar.cmpi .ne v1713 c0_i32_1228
  let v1718 : BitVec 1 := Scalar.andi v1717 v1714
  let v1719 : BitVec 32 := Scalar.addi v1713 v1712
  let v1720 : BitVec 32 := Scalar.select v1718 v1719 v1713
  let c1_i32_1231 : BitVec 32 := 1#32
  let v1721 : BitVec 32 := Scalar.muli v1720 c1_i32_1231
  let v1722 : BitVec 32 := Scalar.addi c0_i32_1232 v1721
  v1722.toNat
def k0_dev41 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1237 : BitVec 32 := 11#32
  let v1731 : BitVec 32 := Scalar.addi v2 c11_i32_1237
  let c16_i32_1238 : BitVec 32 := 16#32
  let c0_i32_1239 : BitVec 32 := 0#32
  let v1732 : BitVec 1 := Scalar.cmpi .eq c16_i32_1238 c0_i32_1239
  let c1_i32_1240 : BitVec 32 := 1#32
  let v1733 : BitVec 32 := Scalar.select v1732 c1_i32_1240 c16_i32_1238
  let v1734 : BitVec 32 := Scalar.remsi v1731 v1733
  let c0_i32_1242 : BitVec 32 := 0#32
  let v1736 : BitVec 1 := Scalar.cmpi .slt v1734 c0_i32_1242
  let c0_i32_1243 : BitVec 32 := 0#32
  let v1737 : BitVec 1 := Scalar.cmpi .slt v1733 c0_i32_1243
  let v1738 : BitVec 1 := Scalar.xori v1736 v1737
  let c0_i32_1241 : BitVec 32 := 0#32
  let v1735 : BitVec 1 := Scalar.cmpi .ne v1734 c0_i32_1241
  let v1739 : BitVec 1 := Scalar.andi v1738 v1735
  let v1740 : BitVec 32 := Scalar.addi v1734 v1733
  let v1741 : BitVec 32 := Scalar.select v1739 v1740 v1734
  let c1_i32_1244 : BitVec 32 := 1#32
  let v1742 : BitVec 32 := Scalar.muli v1741 c1_i32_1244
  let v1743 : BitVec 32 := Scalar.addi c0_i32_1245 v1742
  v1743.toNat
def k0_dev42 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1250 : BitVec 32 := 12#32
  let v1752 : BitVec 32 := Scalar.addi v2 c12_i32_1250
  let c16_i32_1251 : BitVec 32 := 16#32
  let c0_i32_1252 : BitVec 32 := 0#32
  let v1753 : BitVec 1 := Scalar.cmpi .eq c16_i32_1251 c0_i32_1252
  let c1_i32_1253 : BitVec 32 := 1#32
  let v1754 : BitVec 32 := Scalar.select v1753 c1_i32_1253 c16_i32_1251
  let v1755 : BitVec 32 := Scalar.remsi v1752 v1754
  let c0_i32_1255 : BitVec 32 := 0#32
  let v1757 : BitVec 1 := Scalar.cmpi .slt v1755 c0_i32_1255
  let c0_i32_1256 : BitVec 32 := 0#32
  let v1758 : BitVec 1 := Scalar.cmpi .slt v1754 c0_i32_1256
  let v1759 : BitVec 1 := Scalar.xori v1757 v1758
  let c0_i32_1254 : BitVec 32 := 0#32
  let v1756 : BitVec 1 := Scalar.cmpi .ne v1755 c0_i32_1254
  let v1760 : BitVec 1 := Scalar.andi v1759 v1756
  let v1761 : BitVec 32 := Scalar.addi v1755 v1754
  let v1762 : BitVec 32 := Scalar.select v1760 v1761 v1755
  let c1_i32_1257 : BitVec 32 := 1#32
  let v1763 : BitVec 32 := Scalar.muli v1762 c1_i32_1257
  let v1764 : BitVec 32 := Scalar.addi c0_i32_1258 v1763
  v1764.toNat
def k0_dev43 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1263 : BitVec 32 := 13#32
  let v1773 : BitVec 32 := Scalar.addi v2 c13_i32_1263
  let c16_i32_1264 : BitVec 32 := 16#32
  let c0_i32_1265 : BitVec 32 := 0#32
  let v1774 : BitVec 1 := Scalar.cmpi .eq c16_i32_1264 c0_i32_1265
  let c1_i32_1266 : BitVec 32 := 1#32
  let v1775 : BitVec 32 := Scalar.select v1774 c1_i32_1266 c16_i32_1264
  let v1776 : BitVec 32 := Scalar.remsi v1773 v1775
  let c0_i32_1268 : BitVec 32 := 0#32
  let v1778 : BitVec 1 := Scalar.cmpi .slt v1776 c0_i32_1268
  let c0_i32_1269 : BitVec 32 := 0#32
  let v1779 : BitVec 1 := Scalar.cmpi .slt v1775 c0_i32_1269
  let v1780 : BitVec 1 := Scalar.xori v1778 v1779
  let c0_i32_1267 : BitVec 32 := 0#32
  let v1777 : BitVec 1 := Scalar.cmpi .ne v1776 c0_i32_1267
  let v1781 : BitVec 1 := Scalar.andi v1780 v1777
  let v1782 : BitVec 32 := Scalar.addi v1776 v1775
  let v1783 : BitVec 32 := Scalar.select v1781 v1782 v1776
  let c1_i32_1270 : BitVec 32 := 1#32
  let v1784 : BitVec 32 := Scalar.muli v1783 c1_i32_1270
  let v1785 : BitVec 32 := Scalar.addi c0_i32_1271 v1784
  v1785.toNat
def k0_dev44 (d0 : Dev nD) : Nat :=
  let c0_i32_1284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1276 : BitVec 32 := 14#32
  let v1794 : BitVec 32 := Scalar.addi v2 c14_i32_1276
  let c16_i32_1277 : BitVec 32 := 16#32
  let c0_i32_1278 : BitVec 32 := 0#32
  let v1795 : BitVec 1 := Scalar.cmpi .eq c16_i32_1277 c0_i32_1278
  let c1_i32_1279 : BitVec 32 := 1#32
  let v1796 : BitVec 32 := Scalar.select v1795 c1_i32_1279 c16_i32_1277
  let v1797 : BitVec 32 := Scalar.remsi v1794 v1796
  let c0_i32_1281 : BitVec 32 := 0#32
  let v1799 : BitVec 1 := Scalar.cmpi .slt v1797 c0_i32_1281
  let c0_i32_1282 : BitVec 32 := 0#32
  let v1800 : BitVec 1 := Scalar.cmpi .slt v1796 c0_i32_1282
  let v1801 : BitVec 1 := Scalar.xori v1799 v1800
  let c0_i32_1280 : BitVec 32 := 0#32
  let v1798 : BitVec 1 := Scalar.cmpi .ne v1797 c0_i32_1280
  let v1802 : BitVec 1 := Scalar.andi v1801 v1798
  let v1803 : BitVec 32 := Scalar.addi v1797 v1796
  let v1804 : BitVec 32 := Scalar.select v1802 v1803 v1797
  let c1_i32_1283 : BitVec 32 := 1#32
  let v1805 : BitVec 32 := Scalar.muli v1804 c1_i32_1283
  let v1806 : BitVec 32 := Scalar.addi c0_i32_1284 v1805
  v1806.toNat
def k0_dev45 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1289 : BitVec 32 := 15#32
  let v1815 : BitVec 32 := Scalar.addi v2 c15_i32_1289
  let c16_i32_1290 : BitVec 32 := 16#32
  let c0_i32_1291 : BitVec 32 := 0#32
  let v1816 : BitVec 1 := Scalar.cmpi .eq c16_i32_1290 c0_i32_1291
  let c1_i32_1292 : BitVec 32 := 1#32
  let v1817 : BitVec 32 := Scalar.select v1816 c1_i32_1292 c16_i32_1290
  let v1818 : BitVec 32 := Scalar.remsi v1815 v1817
  let c0_i32_1294 : BitVec 32 := 0#32
  let v1820 : BitVec 1 := Scalar.cmpi .slt v1818 c0_i32_1294
  let c0_i32_1295 : BitVec 32 := 0#32
  let v1821 : BitVec 1 := Scalar.cmpi .slt v1817 c0_i32_1295
  let v1822 : BitVec 1 := Scalar.xori v1820 v1821
  let c0_i32_1293 : BitVec 32 := 0#32
  let v1819 : BitVec 1 := Scalar.cmpi .ne v1818 c0_i32_1293
  let v1823 : BitVec 1 := Scalar.andi v1822 v1819
  let v1824 : BitVec 32 := Scalar.addi v1818 v1817
  let v1825 : BitVec 32 := Scalar.select v1823 v1824 v1818
  let c1_i32_1296 : BitVec 32 := 1#32
  let v1826 : BitVec 32 := Scalar.muli v1825 c1_i32_1296
  let v1827 : BitVec 32 := Scalar.addi c0_i32_1297 v1826
  v1827.toNat
def k0_off12 (d0 : Dev nD) (c1_i32_1302 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1836 : BitVec 32 := Scalar.subi v2 c1_i32_1302
  let c16_i32_1303 : BitVec 32 := 16#32
  let c0_i32_1304 : BitVec 32 := 0#32
  let v1837 : BitVec 1 := Scalar.cmpi .eq c16_i32_1303 c0_i32_1304
  let c1_i32_1305 : BitVec 32 := 1#32
  let v1838 : BitVec 32 := Scalar.select v1837 c1_i32_1305 c16_i32_1303
  let v1839 : BitVec 32 := Scalar.remsi v1836 v1838
  let c0_i32_1307 : BitVec 32 := 0#32
  let v1841 : BitVec 1 := Scalar.cmpi .slt v1839 c0_i32_1307
  let c0_i32_1308 : BitVec 32 := 0#32
  let v1842 : BitVec 1 := Scalar.cmpi .slt v1838 c0_i32_1308
  let v1843 : BitVec 1 := Scalar.xori v1841 v1842
  let c0_i32_1306 : BitVec 32 := 0#32
  let v1840 : BitVec 1 := Scalar.cmpi .ne v1839 c0_i32_1306
  let v1844 : BitVec 1 := Scalar.andi v1843 v1840
  let v1845 : BitVec 32 := Scalar.addi v1839 v1838
  let v1846 : BitVec 32 := Scalar.select v1844 v1845 v1839
  let c0_i32_1311 : BitVec 32 := 0#32
  let c0_i32_1312 : BitVec 32 := 0#32
  ![v1846.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Struct.lean ====
/-
  The kernel's body as a program of loops: the printed body is fifteen signals, fifteen transfers, sixteen
  accumulation steps and so on written out one after the other; here the same operations are written once each over
  the step's number (`BodyEq.lean` states that the printed body is this program).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelProof

open Cert.KernelIdeal Cert.KernelIdeal.Gen
open Idealize.ShloMosaic Idealize.SL.Sem

variable {F : FTy → Type} [FloatOps F]

/-- A program of the kernel's body. -/
abbrev P (F : FTy → Type) (α : Type) : Type 1 := Prog (TpuEff nD τ sig (Elt F) Λ₀ .tc) α

/-- `n` steps one after the other, numbered from `a`. -/
def steps (f : ℕ → P F PUnit) : ℕ → ℕ → P F PUnit
  | 0, _ => pure ⟨⟩
  | n + 1, a => do f a; steps f n (a + 1)

/-! ## The arrays -/

abbrev xM : Memref sig .tc .vmem S4096x256 .f32 := Memref.whole cc0_stg0_0
abbrev oM : Memref sig .tc .vmem S256x8192 .f32 := Memref.whole cc0_stg1_0
abbrev wM : Memref sig .tc .hbm S4096x8192 .f32 := Memref.whole main_arg1
abbrev xsM : Memref sig .tc .vmem S4096x256 .bf16 := Memref.whole cc0_scratch0
abbrev xgM : Memref sig .tc .vmem S16x256x256 .bf16 := Memref.whole cc0_scratch1
abbrev wbM : Memref sig .tc .vmem S3x256x8192 .f32 := Memref.whole cc0_scratch2
abbrev amM : Memref sig .tc .vmem S16x8x128 .f32 := Memref.whole cc0_scratch3

/-- The barrier semaphore. -/
abbrev barS : Sem sig := (SemArray.scalar (sig.barrier 0 rfl) : Sems sig S_).sem

theorem mod3_inb (s : ℕ) : ∀ a, (![s % 3, 0, 0] : Fin 3 → ℕ) a + S1x256x8192.size a ≤ S3x256x8192.size a := by
  have h : s % 3 < 3 := Nat.mod_lt _ (by decide)
  intro a; fin_cases a
  · show s % 3 + 1 ≤ 3; omega
  · show 0 + 256 ≤ 256; omega
  · show 0 + 8192 ≤ 8192; omega

theorem mod3_sem_inb (s : ℕ) : ∀ a, (![s % 3] : Fin 1 → ℕ) a + S1.size a ≤ S3.size a := by
  have h : s % 3 < 3 := Nat.mod_lt _ (by decide)
  intro a; fin_cases a
  show s % 3 + 1 ≤ 3; omega

/-! ## The device each signal and transfer names, as printed -/

def sigDev (c : Dev nD) : ℕ → Dev nD
  | 1 => ⟨k0_dev1 c, k0_dev1_lt c⟩ | 2 => ⟨k0_dev2 c, k0_dev2_lt c⟩ | 3 => ⟨k0_dev3 c, k0_dev3_lt c⟩
  | 4 => ⟨k0_dev4 c, k0_dev4_lt c⟩ | 5 => ⟨k0_dev5 c, k0_dev5_lt c⟩ | 6 => ⟨k0_dev6 c, k0_dev6_lt c⟩
  | 7 => ⟨k0_dev7 c, k0_dev7_lt c⟩ | 8 => ⟨k0_dev8 c, k0_dev8_lt c⟩ | 9 => ⟨k0_dev9 c, k0_dev9_lt c⟩
  | 10 => ⟨k0_dev10 c, k0_dev10_lt c⟩ | 11 => ⟨k0_dev11 c, k0_dev11_lt c⟩ | 12 => ⟨k0_dev12 c, k0_dev12_lt c⟩
  | 13 => ⟨k0_dev13 c, k0_dev13_lt c⟩ | 14 => ⟨k0_dev14 c, k0_dev14_lt c⟩ | _ => ⟨k0_dev15 c, k0_dev15_lt c⟩

def sendDev (c : Dev nD) : ℕ → Dev nD
  | 1 => ⟨k0_dev16 c, k0_dev16_lt c⟩ | 2 => ⟨k0_dev17 c, k0_dev17_lt c⟩ | 3 => ⟨k0_dev18 c, k0_dev18_lt c⟩
  | 4 => ⟨k0_dev19 c, k0_dev19_lt c⟩ | 5 => ⟨k0_dev20 c, k0_dev20_lt c⟩ | 6 => ⟨k0_dev21 c, k0_dev21_lt c⟩
  | 7 => ⟨k0_dev22 c, k0_dev22_lt c⟩ | 8 => ⟨k0_dev23 c, k0_dev23_lt c⟩ | 9 => ⟨k0_dev24 c, k0_dev24_lt c⟩
  | 10 => ⟨k0_dev25 c, k0_dev25_lt c⟩ | 11 => ⟨k0_dev26 c, k0_dev26_lt c⟩ | 12 => ⟨k0_dev27 c, k0_dev27_lt c⟩
  | 13 => ⟨k0_dev28 c, k0_dev28_lt c⟩ | 14 => ⟨k0_dev29 c, k0_dev29_lt c⟩ | _ => ⟨k0_dev30 c, k0_dev30_lt c⟩

def amDev (c : Dev nD) : ℕ → Dev nD
  | 1 => ⟨k0_dev31 c, k0_dev31_lt c⟩ | 2 => ⟨k0_dev32 c, k0_dev32_lt c⟩ | 3 => ⟨k0_dev33 c, k0_dev33_lt c⟩
  | 4 => ⟨k0_dev34 c, k0_dev34_lt c⟩ | 5 => ⟨k0_dev35 c, k0_dev35_lt c⟩ | 6 => ⟨k0_dev36 c, k0_dev36_lt c⟩
  | 7 => ⟨k0_dev37 c, k0_dev37_lt c⟩ | 8 => ⟨k0_dev38 c, k0_dev38_lt c⟩ | 9 => ⟨k0_dev39 c, k0_dev39_lt c⟩
  | 10 => ⟨k0_dev40 c, k0_dev40_lt c⟩ | 11 => ⟨k0_dev41 c, k0_dev41_lt c⟩ | 12 => ⟨k0_dev42 c, k0_dev42_lt c⟩
  | 13 => ⟨k0_dev43 c, k0_dev43_lt c⟩ | 14 => ⟨k0_dev44 c, k0_dev44_lt c⟩ | _ => ⟨k0_dev45 c, k0_dev45_lt c⟩

/-! ## The views the transfers go through, as printed -/

/-- The step's number as an index of the printed offsets' range `1..15`, and of `0..15`. -/
abbrev ix15 (s : ℕ) : Fin 15 := ⟨(s - 1) % 15, Nat.mod_lt _ (by decide)⟩
abbrev ix16 (s : ℕ) : Fin 16 := ⟨s % 16, Nat.mod_lt _ (by decide)⟩
/-- The step's number among `1..15` as the word the offsets take. -/
abbrev w15 (s : ℕ) : BitVec 32 := BitVec.ofNat 32 (1 + (ix15 s).val)
abbrev w16 (s : ℕ) : BitVec 32 := BitVec.ofNat 32 (ix16 s).val

abbrev wSrc (c : Dev nD) (s : ℕ) : Memref sig .tc .hbm S256x8192 .f32 :=
  wM.slice (Rect.unit (s := S4096x8192) (k0_off1 c (w16 s)) S256x8192.size (k0_off1_inb c (ix16 s))) (fun _ => rfl)
abbrev wDst (s : ℕ) : Memref sig .tc .vmem S256x8192 .f32 :=
  (wbM.slice (Rect.unit (s := S3x256x8192) ![s % 3, 0, 0] S1x256x8192.size (mod3_inb s)) (fun _ => rfl)).squeeze S256x8192 squeezes_S1x256x8192_S256x8192
abbrev wSem (s : ℕ) : DmaSem sig :=
  ((cc0_scratch6.slice (Rect.unit (s := S3) ![s % 3] S1.size (mod3_sem_inb s))).squeeze S_ squeezes_S1_S_).sem
abbrev xsSrc (c : Dev nD) (s : ℕ) : Memref sig .tc .vmem S256x256 .bf16 :=
  xsM.slice (Rect.unit (s := S4096x256) (k0_off5 c (w15 s)) S256x256.size (k0_off5_inb c (ix15 s))) (fun _ => rfl)
abbrev xgOwn (c : Dev nD) : Memref sig .tc .vmem S256x256 .bf16 :=
  (xgM.slice (Rect.unit (s := S16x256x256) (k0_off4 c) S1x256x256.size (k0_off4_inb c)) (fun _ => rfl)).squeeze S256x256 squeezes_S1x256x256_S256x256
abbrev xgSrc (c : Dev nD) (s : ℕ) : Memref sig .tc .vmem S256x256 .bf16 :=
  (xgM.slice (Rect.unit (s := S16x256x256) (k0_off8 c (w15 s)) S1x256x256.size (k0_off8_inb c (ix15 s))) (fun _ => rfl)).squeeze S256x256 squeezes_S1x256x256_S256x256
abbrev amOwn (c : Dev nD) : Memref sig .tc .vmem S8x128 .f32 :=
  (amM.slice (Rect.unit (s := S16x8x128) (k0_off11 c) S1x8x128.size (k0_off11_inb c)) (fun _ => rfl)).squeeze S8x128 squeezes_S1x8x128_S8x128
abbrev amSrc (c : Dev nD) (s : ℕ) : Memref sig .tc .vmem S8x128 .f32 :=
  (amM.slice (Rect.unit (s := S16x8x128) (k0_off12 c (w15 s)) S1x8x128.size (k0_off12_inb c (ix15 s))) (fun _ => rfl)).squeeze S8x128 squeezes_S1x8x128_S8x128
abbrev xs0 : Memref sig .tc .vmem S256x256 .bf16 :=
  xsM.slice (Rect.unit (s := S4096x256) ![0, 0] S256x256.size inb_S4096x256_S256x256_0_0) (fun _ => rfl)

/-- Semaphore arrays at the printed indices: the target's, this device's own, the source's. -/
abbrev semDst (a : DmaSems sig S16) (c : Dev nD) (s : ℕ) : DmaSem sig :=
  ((a.slice (Rect.unit (s := S16) (k0_off2 c (w15 s)) S1.size (k0_off2_inb c (ix15 s)))).squeeze S_ squeezes_S1_S_).sem
abbrev semOwn (a : DmaSems sig S16) (c : Dev nD) : DmaSem sig :=
  ((a.slice (Rect.unit (s := S16) (k0_off3 c) S1.size (k0_off3_inb c))).squeeze S_ squeezes_S1_S_).sem
abbrev semSrc (a : DmaSems sig S16) (c : Dev nD) (s : ℕ) : DmaSem sig :=
  ((a.slice (Rect.unit (s := S16) (k0_off7 c (w15 s)) S1.size (k0_off7_inb c (ix15 s)))).squeeze S_ squeezes_S1_S_).sem

/-! ## The operations -/

def signalAt (c : Dev nD) (s : ℕ) : P F PUnit := semSignalWord (sigDev c s) barS 1#32

def copyW (c : Dev nD) (s : ℕ) : P F PUnit :=
  Prog.lift (.enqueueDma (wSrc c s) (.here (wDst s)) (.dma (wSem s)) (View.wordExact_bits rfl) ((View.wordExact_bits rfl).reshape _ _) ⟨Or.inl rfl, trivial⟩)

def waitW (c : Dev nD) (s : ℕ) : P F PUnit :=
  Prog.lift (.waitDma2 (wSem s) (wSrc c s) (wDst s) (View.wordExact_bits rfl) ((View.wordExact_bits rfl).reshape _ _))

def sendX (c : Dev nD) (s : ℕ) : P F PUnit :=
  Prog.lift (.enqueueDma (xsSrc c s) (.remote (Dev.tc (sendDev c s)) (xgOwn c) (.dma (semDst cc0_scratch4 c s))) (.dma (semOwn cc0_scratch5 c))
    ((Memref.isWhole_whole _).wordExact_slice rfl _ (k0_off5_wordsbf16 c (ix15 s))) (((Memref.isWhole_whole _).wordExact_slice rfl _ (k0_off4_wordsbf16 c)).reshape _ _) ⟨⟨rfl, Or.inl rfl⟩, trivial⟩)

def waitX (c : Dev nD) (s : ℕ) : P F PUnit :=
  Prog.lift (.waitDma2 (semSrc cc0_scratch5 c s) xs0 (xgSrc c s)
    ((Memref.isWhole_whole _).wordExact_slice rfl _ wordsbf16_S4096x256_S256x256_0_0) (((Memref.isWhole_whole _).wordExact_slice rfl _ (k0_off8_wordsbf16 c (ix15 s))).reshape _ _))

def sendA (c : Dev nD) (s : ℕ) : P F PUnit :=
  Prog.lift (.enqueueDma (amOwn c) (.remote (Dev.tc (amDev c s)) (amOwn c) (.dma (semDst cc0_scratch7 c s))) (.dma (semOwn cc0_scratch8 c))
    ((View.wordExact_bits rfl).reshape _ _) ((View.wordExact_bits rfl).reshape _ _) ⟨⟨rfl, Or.inl rfl⟩, trivial⟩)

def waitA (c : Dev nD) (s : ℕ) : P F PUnit :=
  Prog.lift (.waitDma2 (semSrc cc0_scratch8 c s) (amSrc c s) (amSrc c s) ((View.wordExact_bits rfl).reshape _ _) ((View.wordExact_bits rfl).reshape _ _))

/-- The two waits for what device `c` itself sent at step `s`. -/
def waitSent (c : Dev nD) (s : ℕ) : P F PUnit := do
  Prog.lift (.waitDma2 (semDst cc0_scratch4 c s) (xgOwn c) (xsSrc c s)
    (((Memref.isWhole_whole _).wordExact_slice rfl _ (k0_off4_wordsbf16 c)).reshape _ _) ((Memref.isWhole_whole _).wordExact_slice rfl _ (k0_off5_wordsbf16 c (ix15 s))))
  Prog.lift (.waitDma2 (semDst cc0_scratch7 c s) (amOwn c) (amOwn c) ((View.wordExact_bits rfl).reshape _ _) ((View.wordExact_bits rfl).reshape _ _))

abbrev oRect : Rect S256x8192 := Rect.unit (s := S256x8192) ![0, 0] S256x8192.size inb_S256x8192_S256x8192_0_0
abbrev xRect : Rect S4096x256 := Rect.unit (s := S4096x256) ![0, 0] S4096x256.size inb_S4096x256_S4096x256_0_0
abbrev wRect (s : ℕ) : Rect S3x256x8192 := Rect.unit (s := S3x256x8192) ![s % 3, 0, 0] S1x256x8192.size (mod3_inb s)
abbrev amRect (c : Dev nD) : Rect S16x8x128 := Rect.unit (s := S16x8x128) (k0_off10 c) S1x8x128.size (k0_off10_inb c)

def loadO : P F (Vec F S256x8192 .f32) := Prog.lift (.load oM oRect.toLoadRect (View.loadsAt_vmem h_S256x8192))
/-- A store of the output block; the printed program reads the block before it overwrites it. -/
def storeO (v : Vec F S256x8192 .f32) : P F PUnit := do
  let _ ← loadO
  Prog.lift (.store oM oRect v Finset.univ (View.stores_vmem_bits_univ h_S256x8192 rfl) (.inl rfl))

def loadW (s : ℕ) : P F (Vec F S1x256x8192 .f32) := Prog.lift (.load wbM (wRect s).toLoadRect (View.loadsAt_vmem h_S1x256x8192))

/-- The program's start: the block of `x` cut to the narrow format. -/
def castX : P F PUnit := do
  let v ← Prog.lift (.load xM xRect.toLoadRect (View.loadsAt_vmem h_S4096x256))
  let _ ← Prog.lift (.load xsM xRect.toLoadRect (View.loadsAt_vmem h_S4096x256))
  Prog.lift (.store xsM xRect (k0_pay1 v) Finset.univ (View.stores_vmem h_S4096x256 ((Memref.isWhole_whole _).storeExact_slice rfl _ packedbf16_S4096x256_S4096x256_0_0) (fun _ => rfl)) (.inl rfl))

/-- The first product: the device's own rows of its own block of `x`. -/
def first (c : Dev nD) : P F PUnit := do
  let a ← Prog.lift (.load xsM (Rect.unit (s := S4096x256) (k0_off6 c) S256x256.size (k0_off6_inb c)).toLoadRect (View.loadsAt_vmem h_S256x256))
  let w ← loadW 0
  storeO (k0_pay2 a w)

/-- Step `s`'s product added to the output block. -/
def accum (c : Dev nD) (s : ℕ) : P F PUnit := do
  waitX c s
  let a ← Prog.lift (.load xgM (Rect.unit (s := S16x256x256) (k0_off9 c (w15 s)) S1x256x256.size (k0_off9_inb c (ix15 s))).toLoadRect (View.loadsAt_vmem h_S1x256x256))
  let w ← loadW s
  let o ← loadO
  storeO (k0_pay3 a w o)

/-- A step that starts the copy two steps ahead, and one that has none to start. -/
def stepCopy (c : Dev nD) (s : ℕ) : P F PUnit := do waitW c s; copyW c (s + 2); accum c s
def stepLast (c : Dev nD) (s : ℕ) : P F PUnit := do waitW c s; accum c s

/-- The rectified block and the device's maximum. -/
def relu (c : Dev nD) : P F PUnit := do
  let y ← loadO
  storeO (k0_pay22 y)
  let _ ← Prog.lift (.load amM (amRect c).toLoadRect (View.loadsAt_vmem h_S1x8x128))
  Prog.lift (.store amM (amRect c) (k0_pay23 y) Finset.univ (View.stores_vmem_bits_univ h_S1x8x128 rfl) (.inl rfl))

/-- The quantised block, by the maximum over all devices. -/
def quant : P F PUnit := do
  let m ← Prog.lift (.load amM (Rect.unit (s := S16x8x128) ![0, 0, 0] S16x8x128.size inb_S16x8x128_S16x8x128_0_0_0).toLoadRect (View.loadsAt_vmem h_S16x8x128))
  let y ← loadO
  storeO (k0_pay25 (k0_pay24 m) y)

/-- Device `c`'s program. -/
def bodyOf (c : Dev nD) : P F PUnit := do
  castX
  steps (signalAt c) 15 1
  semWaitWord barS 15#32
  copyW c 0
  copyW c 1
  steps (sendX c) 15 1
  waitW c 0
  copyW c 2
  first c
  steps (stepCopy c) 13 1
  steps (stepLast c) 2 14
  relu c
  steps (sendA c) 15 1
  steps (waitA c) 15 1
  quant
  steps (waitSent c) 15 1

/-- The printed body. -/
abbrev body : P F PUnit :=
  cc0_body xM (Memref.isWhole_whole _) wM (Memref.isWhole_whole _) oM (Memref.isWhole_whole _) xsM (Memref.isWhole_whole _) xgM (Memref.isWhole_whole _) wbM (Memref.isWhole_whole _) amM (Memref.isWhole_whole _)
    cc0_scratch4 cc0_scratch5 cc0_scratch6 cc0_scratch7 cc0_scratch8

end Cert.KernelProof

end
-- ==== Proof.Geo.lean ====
/-
  The geometry of the kernel's transfers: the devices and blocks the printed offsets name, the sets of elements the
  views cover, and what a transfer leaves in them, with every buffer's contents given as one function of the
  devices' inputs.
-/
module

public import proofs.«01_k».proof.Proof.Struct
public import Idealize.ShloMosaic.Lib.Pointwise.Index

@[expose] public section

noncomputable section

namespace Cert.KernelProof

open Cert.KernelIdeal Cert.KernelIdeal.Gen
open Idealize.ShloMosaic Idealize.SL.Sem

variable {F : FTy → Type} [FloatOps F]

/-! ## Devices -/

/-- The device `s` places after `c`, and the device `s` places before it. -/
def dst (c : Dev nD) (s : ℕ) : Dev nD := ⟨(c.val + s) % 16, Nat.mod_lt _ (by decide)⟩
def src (c : Dev nD) (s : ℕ) : Dev nD := ⟨(c.val + (16 - s)) % 16, Nat.mod_lt _ (by decide)⟩

theorem src_zero (c : Dev nD) : src c 0 = c := by revert c; decide
theorem dst_ne (c : Dev nD) (s : ℕ) (h1 : 1 ≤ s) (h2 : s < 16) : dst c s ≠ c := by
  have hc : c.val < 16 := c.isLt
  intro h; have := congrArg Fin.val h; simp only [dst] at this; omega
theorem src_ne (c : Dev nD) (s : ℕ) (h1 : 1 ≤ s) (h2 : s < 16) : src c s ≠ c := by
  have hc : c.val < 16 := c.isLt
  intro h; have := congrArg Fin.val h; simp only [src] at this; omega
theorem src_dst (c : Dev nD) (s : ℕ) (h2 : s < 16) : src (dst c s) s = c := by
  have hc : c.val < 16 := c.isLt
  apply Fin.ext; simp only [dst, src]; omega
theorem dst_src (c : Dev nD) (s : ℕ) (h2 : s < 16) : dst (src c s) s = c := by
  have hc : c.val < 16 := c.isLt
  apply Fin.ext; simp only [dst, src]; omega

theorem ix15_val {s : ℕ} (h1 : 1 ≤ s) (h2 : s < 16) : 1 + (ix15 s).val = s := by show 1 + (s - 1) % 15 = s; omega
theorem ix16_val {s : ℕ} (h2 : s < 16) : (ix16 s).val = s := Nat.mod_eq_of_lt h2

set_option maxRecDepth 65536 in
theorem sigDev_all : ∀ (c : Dev nD) (s : Fin 16), 1 ≤ s.val → sigDev c s.val = dst c s.val := by decide +kernel
set_option maxRecDepth 65536 in
theorem sendDev_all : ∀ (c : Dev nD) (s : Fin 16), 1 ≤ s.val → sendDev c s.val = dst c s.val := by decide +kernel
set_option maxRecDepth 65536 in
theorem amDev_all : ∀ (c : Dev nD) (s : Fin 16), 1 ≤ s.val → amDev c s.val = dst c s.val := by decide +kernel

theorem sigDev_eq (c : Dev nD) {s : ℕ} (h1 : 1 ≤ s) (h2 : s < 16) : sigDev c s = dst c s := sigDev_all c ⟨s, h2⟩ h1
theorem sendDev_eq (c : Dev nD) {s : ℕ} (h1 : 1 ≤ s) (h2 : s < 16) : sendDev c s = dst c s := sendDev_all c ⟨s, h2⟩ h1
theorem amDev_eq (c : Dev nD) {s : ℕ} (h1 : 1 ≤ s) (h2 : s < 16) : amDev c s = dst c s := amDev_all c ⟨s, h2⟩ h1

/-! ## The printed offsets in closed form -/

theorem off1_all : ∀ (c : Dev nD) (r : Fin 16), k0_off1 c (BitVec.ofNat 32 r.val) = ![256 * (src c r.val).val, 0] := by decide +kernel
theorem off2_all : ∀ (c : Dev nD) (r : Fin 15), k0_off2 c (BitVec.ofNat 32 (1 + r.val)) = ![(dst c (1 + r.val)).val] := by decide +kernel
theorem off5_all : ∀ (c : Dev nD) (r : Fin 15), k0_off5 c (BitVec.ofNat 32 (1 + r.val)) = ![256 * (dst c (1 + r.val)).val, 0] := by decide +kernel
theorem off7_all : ∀ (c : Dev nD) (r : Fin 15), k0_off7 c (BitVec.ofNat 32 (1 + r.val)) = ![(src c (1 + r.val)).val] := by decide +kernel
theorem off8_all : ∀ (c : Dev nD) (r : Fin 15), k0_off8 c (BitVec.ofNat 32 (1 + r.val)) = ![(src c (1 + r.val)).val, 0, 0] := by decide +kernel
theorem off9_all : ∀ (c : Dev nD) (r : Fin 15), k0_off9 c (BitVec.ofNat 32 (1 + r.val)) = ![(src c (1 + r.val)).val, 0, 0] := by decide +kernel
theorem off12_all : ∀ (c : Dev nD) (r : Fin 15), k0_off12 c (BitVec.ofNat 32 (1 + r.val)) = ![(src c (1 + r.val)).val, 0, 0] := by decide +kernel
theorem off3_all : ∀ (c : Dev nD), k0_off3 c = ![c.val] := by decide +kernel
theorem off4_all : ∀ (c : Dev nD), k0_off4 c = ![c.val, 0, 0] := by decide +kernel
theorem off6_all : ∀ (c : Dev nD), k0_off6 c = ![256 * c.val, 0] := by decide +kernel
theorem off10_all : ∀ (c : Dev nD), k0_off10 c = ![c.val, 0, 0] := by decide +kernel
theorem off11_all : ∀ (c : Dev nD), k0_off11 c = ![c.val, 0, 0] := by decide +kernel

theorem off1_at (c : Dev nD) {s : ℕ} (h2 : s < 16) : k0_off1 c (w16 s) = ![256 * (src c s).val, 0] := by
  have h := off1_all c (ix16 s); rw [ix16_val h2] at h; unfold w16; rw [ix16_val h2]; exact h
theorem off2_at (c : Dev nD) {s : ℕ} (h1 : 1 ≤ s) (h2 : s < 16) : k0_off2 c (w15 s) = ![(dst c s).val] := by
  have h := off2_all c (ix15 s); rw [ix15_val h1 h2] at h; unfold w15; rw [ix15_val h1 h2]; exact h
theorem off5_at (c : Dev nD) {s : ℕ} (h1 : 1 ≤ s) (h2 : s < 16) : k0_off5 c (w15 s) = ![256 * (dst c s).val, 0] := by
  have h := off5_all c (ix15 s); rw [ix15_val h1 h2] at h; unfold w15; rw [ix15_val h1 h2]; exact h
theorem off7_at (c : Dev nD) {s : ℕ} (h1 : 1 ≤ s) (h2 : s < 16) : k0_off7 c (w15 s) = ![(src c s).val] := by
  have h := off7_all c (ix15 s); rw [ix15_val h1 h2] at h; unfold w15; rw [ix15_val h1 h2]; exact h
theorem off8_at (c : Dev nD) {s : ℕ} (h1 : 1 ≤ s) (h2 : s < 16) : k0_off8 c (w15 s) = ![(src c s).val, 0, 0] := by
  have h := off8_all c (ix15 s); rw [ix15_val h1 h2] at h; unfold w15; rw [ix15_val h1 h2]; exact h
theorem off9_at (c : Dev nD) {s : ℕ} (h1 : 1 ≤ s) (h2 : s < 16) : k0_off9 c (w15 s) = ![(src c s).val, 0, 0] := by
  have h := off9_all c (ix15 s); rw [ix15_val h1 h2] at h; unfold w15; rw [ix15_val h1 h2]; exact h
theorem off12_at (c : Dev nD) {s : ℕ} (h1 : 1 ≤ s) (h2 : s < 16) : k0_off12 c (w15 s) = ![(src c s).val, 0, 0] := by
  have h := off12_all c (ix15 s); rw [ix15_val h1 h2] at h; unfold w15; rw [ix15_val h1 h2]; exact h

/-! ## Blocks -/

theorem row_inb (j : Fin 16) : ∀ a, (![256 * j.val, 0] : Fin 2 → ℕ) a + S256x256.size a ≤ S4096x256.size a := by
  have h := j.isLt
  intro a; fin_cases a
  · show 256 * j.val + 256 ≤ 4096; omega
  · show 0 + 256 ≤ 256; omega
theorem wrow_inb (j : Fin 16) : ∀ a, (![256 * j.val, 0] : Fin 2 → ℕ) a + S256x8192.size a ≤ S4096x8192.size a := by
  have h := j.isLt
  intro a; fin_cases a
  · show 256 * j.val + 256 ≤ 4096; omega
  · show 0 + 8192 ≤ 8192; omega
theorem gat_inb (j : Fin 16) : ∀ a, (![j.val, 0, 0] : Fin 3 → ℕ) a + S1x256x256.size a ≤ S16x256x256.size a := by
  have h := j.isLt
  intro a; fin_cases a
  · show j.val + 1 ≤ 16; omega
  · show 0 + 256 ≤ 256; omega
  · show 0 + 256 ≤ 256; omega
theorem amx_inb (j : Fin 16) : ∀ a, (![j.val, 0, 0] : Fin 3 → ℕ) a + S1x8x128.size a ≤ S16x8x128.size a := by
  have h := j.isLt
  intro a; fin_cases a
  · show j.val + 1 ≤ 16; omega
  · show 0 + 8 ≤ 8; omega
  · show 0 + 128 ≤ 128; omega
theorem slot_inb (i : Fin 3) : ∀ a, (![i.val, 0, 0] : Fin 3 → ℕ) a + S1x256x8192.size a ≤ S3x256x8192.size a := by
  have h := i.isLt
  intro a; fin_cases a
  · show i.val + 1 ≤ 3; omega
  · show 0 + 256 ≤ 256; omega
  · show 0 + 8192 ≤ 8192; omega

/-- Row block `j` of a device's `x`, of the weights; block `j` of the gathered blocks, of the maxima; slot `i` of the
weights' buffer. -/
def xBlk (j : Fin 16) : Finset S4096x256.Idx := (Rect.unit (s := S4096x256) ![256 * j.val, 0] S256x256.size (row_inb j)).set
def wBlk (j : Fin 16) : Finset S4096x8192.Idx := (Rect.unit (s := S4096x8192) ![256 * j.val, 0] S256x8192.size (wrow_inb j)).set
def gBlk (j : Fin 16) : Finset S16x256x256.Idx := (Rect.unit (s := S16x256x256) ![j.val, 0, 0] S1x256x256.size (gat_inb j)).set
def aBlk (j : Fin 16) : Finset S16x8x128.Idx := (Rect.unit (s := S16x8x128) ![j.val, 0, 0] S1x8x128.size (amx_inb j)).set
def bBlk (i : Fin 3) : Finset S3x256x8192.Idx := (Rect.unit (s := S3x256x8192) ![i.val, 0, 0] S1x256x8192.size (slot_inb i)).set

/-- The slot step `s` uses. -/
def slot (s : ℕ) : Fin 3 := ⟨s % 3, Nat.mod_lt _ (by decide)⟩

theorem set_off_congr {s : Shape} {size off off' : Fin s.rank → ℕ} (h : off = off') (inb inb') :
    (Rect.unit (s := s) off size inb).set = (Rect.unit (s := s) off' size inb').set := by subst h; rfl

theorem mem_xBlk {j : Fin 16} {i : S4096x256.Idx} : i ∈ xBlk j ↔ 256 * j.val ≤ (i 0).val ∧ (i 0).val < 256 * j.val + 256 := by
  unfold xBlk; rw [Rect.mem_set_unit]
  have h1 : (i 1).val < 256 := (i 1).isLt
  refine Fin.forall_fin_two.trans ⟨fun h => h.1, fun h => ⟨h, Nat.zero_le _, ?_⟩⟩
  show (i 1).val < 0 + 256; omega
theorem mem_wBlk {j : Fin 16} {i : S4096x8192.Idx} : i ∈ wBlk j ↔ 256 * j.val ≤ (i 0).val ∧ (i 0).val < 256 * j.val + 256 := by
  unfold wBlk; rw [Rect.mem_set_unit]
  have h1 : (i 1).val < 8192 := (i 1).isLt
  refine Fin.forall_fin_two.trans ⟨fun h => h.1, fun h => ⟨h, Nat.zero_le _, ?_⟩⟩
  show (i 1).val < 0 + 8192; omega
theorem mem_gBlk {j : Fin 16} {i : S16x256x256.Idx} : i ∈ gBlk j ↔ i 0 = j := by
  unfold gBlk; rw [Rect.mem_set_unit]
  have h1 : (i 1).val < 256 := (i 1).isLt
  have h2 : (i 2).val < 256 := (i 2).isLt
  constructor
  · intro h; have h0 := h 0; apply Fin.ext
    have ha : j.val ≤ (i 0).val := h0.1
    have hb : (i 0).val < j.val + 1 := h0.2
    omega
  · rintro h a; rw [← h]; fin_cases a
    · exact ⟨Nat.le_refl _, Nat.lt_succ_self _⟩
    · refine ⟨Nat.zero_le _, ?_⟩; show (i 1).val < 0 + 256; omega
    · refine ⟨Nat.zero_le _, ?_⟩; show (i 2).val < 0 + 256; omega
theorem mem_aBlk {j : Fin 16} {i : S16x8x128.Idx} : i ∈ aBlk j ↔ i 0 = j := by
  unfold aBlk; rw [Rect.mem_set_unit]
  have h1 : (i 1).val < 8 := (i 1).isLt
  have h2 : (i 2).val < 128 := (i 2).isLt
  constructor
  · intro h; have h0 := h 0; apply Fin.ext
    have ha : j.val ≤ (i 0).val := h0.1
    have hb : (i 0).val < j.val + 1 := h0.2
    omega
  · rintro h a; rw [← h]; fin_cases a
    · exact ⟨Nat.le_refl _, Nat.lt_succ_self _⟩
    · refine ⟨Nat.zero_le _, ?_⟩; show (i 1).val < 0 + 8; omega
    · refine ⟨Nat.zero_le _, ?_⟩; show (i 2).val < 0 + 128; omega
theorem mem_bBlk {j : Fin 3} {i : S3x256x8192.Idx} : i ∈ bBlk j ↔ i 0 = j := by
  unfold bBlk; rw [Rect.mem_set_unit]
  have h1 : (i 1).val < 256 := (i 1).isLt
  have h2 : (i 2).val < 8192 := (i 2).isLt
  constructor
  · intro h; have h0 := h 0; apply Fin.ext
    have ha : j.val ≤ (i 0).val := h0.1
    have hb : (i 0).val < j.val + 1 := h0.2
    omega
  · rintro h a; rw [← h]; fin_cases a
    · exact ⟨Nat.le_refl _, Nat.lt_succ_self _⟩
    · refine ⟨Nat.zero_le _, ?_⟩; show (i 1).val < 0 + 256; omega
    · refine ⟨Nat.zero_le _, ?_⟩; show (i 2).val < 0 + 8192; omega

/-- The blocks of each buffer are disjoint, and every element lies in one. -/
theorem xBlk_disj : ∀ a b : Fin 16, a ≠ b → Disjoint (xBlk a) (xBlk b) := fun a b hab =>
  Finset.disjoint_left.2 fun i ha hb => hab (by rw [mem_xBlk] at ha hb; apply Fin.ext; omega)
theorem wBlk_disj : ∀ a b : Fin 16, a ≠ b → Disjoint (wBlk a) (wBlk b) := fun a b hab =>
  Finset.disjoint_left.2 fun i ha hb => hab (by rw [mem_wBlk] at ha hb; apply Fin.ext; omega)
theorem gBlk_disj : ∀ a b : Fin 16, a ≠ b → Disjoint (gBlk a) (gBlk b) := fun a b hab =>
  Finset.disjoint_left.2 fun i ha hb => hab ((mem_gBlk.1 ha).symm.trans (mem_gBlk.1 hb))
theorem aBlk_disj : ∀ a b : Fin 16, a ≠ b → Disjoint (aBlk a) (aBlk b) := fun a b hab =>
  Finset.disjoint_left.2 fun i ha hb => hab ((mem_aBlk.1 ha).symm.trans (mem_aBlk.1 hb))
theorem bBlk_disj : ∀ a b : Fin 3, a ≠ b → Disjoint (bBlk a) (bBlk b) := fun a b hab =>
  Finset.disjoint_left.2 fun i ha hb => hab ((mem_bBlk.1 ha).symm.trans (mem_bBlk.1 hb))
theorem xBlk_cover (i : S4096x256.Idx) : ∃ j, i ∈ xBlk j := by
  have h : (i 0).val < 4096 := (i 0).isLt
  exact ⟨⟨(i 0).val / 256, by omega⟩, by rw [mem_xBlk]; show 256 * ((i 0).val / 256) ≤ _ ∧ _ < 256 * ((i 0).val / 256) + 256; omega⟩
theorem wBlk_cover (i : S4096x8192.Idx) : ∃ j, i ∈ wBlk j := by
  have h : (i 0).val < 4096 := (i 0).isLt
  exact ⟨⟨(i 0).val / 256, by omega⟩, by rw [mem_wBlk]; show 256 * ((i 0).val / 256) ≤ _ ∧ _ < 256 * ((i 0).val / 256) + 256; omega⟩
theorem gBlk_cover (i : S16x256x256.Idx) : ∃ j, i ∈ gBlk j := ⟨i 0, mem_gBlk.2 rfl⟩
theorem aBlk_cover (i : S16x8x128.Idx) : ∃ j, i ∈ aBlk j := ⟨i 0, mem_aBlk.2 rfl⟩
theorem bBlk_cover (i : S3x256x8192.Idx) : ∃ j, i ∈ bBlk j := ⟨i 0, mem_bBlk.2 rfl⟩

/-! ## The views' sets -/

theorem set_wSrc (c : Dev nD) {s : ℕ} (h : s < 16) : (wSrc c s).view.set = wBlk (src c s) :=
  (View.set_slice_whole _ _).trans (set_off_congr (off1_at c h) _ _)
theorem set_wDst (s : ℕ) : (wDst s).view.set = bBlk (slot s) :=
  (View.set_reshape _ _).trans (View.set_slice_whole _ _)
theorem set_xsSrc (c : Dev nD) {s : ℕ} (h1 : 1 ≤ s) (h2 : s < 16) : (xsSrc c s).view.set = xBlk (dst c s) :=
  (View.set_slice_whole _ _).trans (set_off_congr (off5_at c h1 h2) _ _)
theorem set_xgOwn (c : Dev nD) : (xgOwn c).view.set = gBlk c :=
  (View.set_reshape _ _).trans ((View.set_slice_whole _ _).trans (set_off_congr (off4_all c) _ _))
theorem set_amOwn (c : Dev nD) : (amOwn c).view.set = aBlk c :=
  (View.set_reshape _ _).trans ((View.set_slice_whole _ _).trans (set_off_congr (off11_all c) _ _))

/-! ## Where the views' elements lie -/

theorem row_lt (j : Fin 16) (r : Fin 256) : 256 * j.val + r.val < 4096 := by have := j.isLt; have := r.isLt; omega
/-- Row `r` of row block `j`. -/
abbrev rowOf (j : Fin 16) (r : Fin 256) : Fin 4096 := ⟨256 * j.val + r.val, row_lt j r⟩

theorem emb_unit2 {n0 n1 m0 m1 : ℕ} (off : Fin 2 → ℕ) (inb) (x : (⟨2, ![m0, m1]⟩ : Shape).Idx) (r0 : Fin n0) (r1 : Fin n1)
    (h0 : off 0 + (x 0).val = r0.val) (h1 : off 1 + (x 1).val = r1.val) :
    (Rect.unit (s := ⟨2, ![n0, n1]⟩) off (⟨2, ![m0, m1]⟩ : Shape).size inb).emb x = ix2 r0 r1 := by
  funext a; apply Fin.ext; fin_cases a
  · show off 0 + 1 * (x 0).val = r0.val; omega
  · show off 1 + 1 * (x 1).val = r1.val; omega
theorem emb_unit3 {n0 n1 n2 m0 m1 m2 : ℕ} (off : Fin 3 → ℕ) (inb) (x : (⟨3, ![m0, m1, m2]⟩ : Shape).Idx) (r0 : Fin n0) (r1 : Fin n1) (r2 : Fin n2)
    (h0 : off 0 + (x 0).val = r0.val) (h1 : off 1 + (x 1).val = r1.val) (h2 : off 2 + (x 2).val = r2.val) :
    (Rect.unit (s := ⟨3, ![n0, n1, n2]⟩) off (⟨3, ![m0, m1, m2]⟩ : Shape).size inb).emb x = ix3 r0 r1 r2 := by
  funext a; apply Fin.ext; fin_cases a
  · show off 0 + 1 * (x 0).val = r0.val; omega
  · show off 1 + 1 * (x 1).val = r1.val; omega
  · show off 2 + 1 * (x 2).val = r2.val; omega
/-- The same through a squeeze of the leading axis of one. -/
theorem emb_squeezed {n0 n1 n2 m1 m2 : ℕ} (off : Fin 3 → ℕ) (inb) (h : (⟨2, ![m1, m2]⟩ : Shape).numel = (⟨3, ![1, m1, m2]⟩ : Shape).numel)
    (x : (⟨2, ![m1, m2]⟩ : Shape).Idx) (r0 : Fin n0) (r1 : Fin n1) (r2 : Fin n2)
    (h0 : off 0 = r0.val) (h1 : off 1 + (x 0).val = r1.val) (h2 : off 2 + (x 1).val = r2.val) :
    (Rect.unit (s := ⟨3, ![n0, n1, n2]⟩) off (⟨3, ![1, m1, m2]⟩ : Shape).size inb).emb (Shape.reshapeEquiv h x) = ix3 r0 r1 r2 := by
  have e : Shape.reshapeEquiv h x = Fin.cons ⟨0, Nat.one_pos⟩ x := Shape.reshapeEquiv_cons_one (d := ![m1, m2]) h x
  rw [e]
  exact emb_unit3 off inb _ r0 r1 r2 (by show off 0 + 0 = _; omega) h1 h2

theorem emb_wSrc (c : Dev nD) {s : ℕ} (h : s < 16) (x : S256x8192.Idx) : (wSrc c s).view.emb x = ix2 (rowOf (src c s) (x 0)) (x 1) :=
  emb_unit2 _ _ x _ _ (by rw [off1_at c h]; rfl) (by rw [off1_at c h]; exact Nat.zero_add _)
theorem emb_wDst (s : ℕ) (x : S256x8192.Idx) : (wDst s).view.emb x = ix3 (slot s) (x 0) (x 1) :=
  emb_squeezed _ _ _ x _ _ _ rfl (Nat.zero_add _) (Nat.zero_add _)
theorem emb_xsSrc (c : Dev nD) {s : ℕ} (h1 : 1 ≤ s) (h2 : s < 16) (x : S256x256.Idx) : (xsSrc c s).view.emb x = ix2 (rowOf (dst c s) (x 0)) (x 1) :=
  emb_unit2 _ _ x _ _ (by rw [off5_at c h1 h2]; rfl) (by rw [off5_at c h1 h2]; exact Nat.zero_add _)
theorem emb_xgOwn (c : Dev nD) (x : S256x256.Idx) : (xgOwn c).view.emb x = ix3 c (x 0) (x 1) :=
  emb_squeezed _ _ _ x _ _ _ (by rw [off4_all c]; rfl) (by rw [off4_all c]; exact Nat.zero_add _) (by rw [off4_all c]; exact Nat.zero_add _)
theorem emb_amOwn (c : Dev nD) (x : S8x128.Idx) : (amOwn c).view.emb x = ix3 c (x 0) (x 1) :=
  emb_squeezed _ _ _ x _ _ _ (by rw [off11_all c]; rfl) (by rw [off11_all c]; exact Nat.zero_add _) (by rw [off11_all c]; exact Nat.zero_add _)

/-! ## Contents -/

section Contents

/-! `X` is every device's block of `x`, `Wt` every device's copy of the weights. -/
variable (X : Dev nD → Vec F S4096x256 .f32) (Wt : Dev nD → Vec F S4096x8192 .f32)

/-- Device `c`'s narrow block of `x`. -/
def xsF (c : Dev nD) : Vec F S4096x256 .bf16 := k0_pay1 (X c)
/-- What device `c` gathers: in block `j`, row block `c` of device `j`'s narrow `x`. -/
def xgF (c : Dev nD) : Vec F S16x256x256 .bf16 := fun i => xsF X (i 0) (ix2 (rowOf c (i 1)) (i 2))
/-- What step `s`'s copy leaves in its slot of device `c`'s weights' buffer: row block `src c s` of the weights. -/
def wbF (c : Dev nD) (s : ℕ) : Vec F S3x256x8192 .f32 := fun i => Wt c (ix2 (rowOf (src c s) (i 1)) (i 2))
/-- The operands of the products as loaded. -/
def aV (c : Dev nD) : Vec F S256x256 .bf16 := fun i => xsF X c (ix2 (rowOf c (i 0)) (i 1))
def gV (c : Dev nD) (s : ℕ) : Vec F S1x256x256 .bf16 := fun i => xsF X (src c s) (ix2 (rowOf c (i 1)) (i 2))
def wV (c : Dev nD) (s : ℕ) : Vec F S1x256x8192 .f32 := fun i => Wt c (ix2 (rowOf (src c s) (i 1)) (i 2))
/-- The output block after step `s`. -/
def acc (c : Dev nD) : ℕ → Vec F S256x8192 .f32
  | 0 => k0_pay2 (aV X c) (wV Wt c 0)
  | s + 1 => k0_pay3 (gV X c (s + 1)) (wV Wt c (s + 1)) (acc c s)
/-- The rectified output block, and its maximum at every element of a tile. -/
def yV (c : Dev nD) : Vec F S256x8192 .f32 := k0_pay22 (acc X Wt c 15)
def mV (c : Dev nD) : Vec F S1x8x128 .f32 := k0_pay23 (acc X Wt c 15)
/-- Tiles, one per device, stacked. -/
def amOf (M : Dev nD → Vec F S1x8x128 .f32) : Vec F S16x8x128 .f32 := fun i => M (i 0) (ix3 0 (i 1) (i 2))
/-- All devices' maxima. -/
def amF : Vec F S16x8x128 .f32 := amOf (mV X Wt)
/-- The result's block on device `c`. -/
def zV (c : Dev nD) : Vec F S256x8192 .f32 := k0_pay25 (k0_pay24 (amF X Wt)) (yV X Wt c)

/-- What a weights' copy leaves in its slot. -/
theorem land_w (c : Dev nD) {s : ℕ} (h : s < 16) (fd : Vec F S3x256x8192 .f32) (i : S3x256x8192.Idx) (hi : i ∈ (wDst s).view.set) :
    (wDst s).view.write (Elt F) fd ((wSrc c s).view.read (Elt F) (Wt c)) Finset.univ i = wbF Wt c s i := by
  obtain ⟨x, -, rfl⟩ := Finset.mem_map.1 hi
  rw [View.write_emb_of_mem _ _ (Finset.mem_univ _), View.read_apply, emb_wDst, emb_wSrc c h]; rfl
/-- What a transfer of a block of `x` leaves at its target. -/
theorem land_x (c : Dev nD) {s : ℕ} (h1 : 1 ≤ s) (h2 : s < 16) (fd : Vec F S16x256x256 .bf16) (i : S16x256x256.Idx) (hi : i ∈ (xgOwn c).view.set) :
    (xgOwn c).view.write (Elt F) fd ((xsSrc c s).view.read (Elt F) (xsF X c)) Finset.univ i = xgF X (dst c s) i := by
  obtain ⟨x, -, rfl⟩ := Finset.mem_map.1 hi
  rw [View.write_emb_of_mem _ _ (Finset.mem_univ _), View.read_apply, emb_xgOwn, emb_xsSrc c h1 h2]; rfl
/-- What a transfer of a maximum leaves at its target. -/
theorem land_a (M : Dev nD → Vec F S1x8x128 .f32) (c : Dev nD) (fd : Vec F S16x8x128 .f32) (i : S16x8x128.Idx) (hi : i ∈ (amOwn c).view.set) :
    (amOwn c).view.write (Elt F) fd ((amOwn c).view.read (Elt F) (amOf M)) Finset.univ i = amOf M i := by
  obtain ⟨x, -, rfl⟩ := Finset.mem_map.1 hi
  rw [View.write_emb_of_mem _ _ (Finset.mem_univ _), View.read_apply, emb_amOwn]; rfl
/-- The maximum as stored. -/
theorem store_a (M : Dev nD → Vec F S1x8x128 .f32) (c : Dev nD) (fd : Vec F S16x8x128 .f32) (i : S16x8x128.Idx) (hi : i ∈ aBlk c) :
    (amM.access (amRect c)).write (Elt F) fd (M c) Finset.univ i = amOf M i := by
  have hs : (amM.access (amRect c)).set = aBlk c := (View.set_slice_whole _ _).trans (set_off_congr (off10_all c) _ _)
  rw [← hs] at hi
  obtain ⟨x, -, rfl⟩ := Finset.mem_map.1 hi
  have e : (amM.access (amRect c)).emb x = ix3 c (x 1) (x 2) :=
    emb_unit3 _ _ x _ _ _ (by rw [off10_all c]; have : (x 0).val < 1 := (x 0).isLt; show c.val + (x 0).val = c.val; omega) (by rw [off10_all c]; exact Nat.zero_add _) (by rw [off10_all c]; exact Nat.zero_add _)
  rw [View.write_emb_of_mem _ _ (Finset.mem_univ _), e]
  show M c x = M c (ix3 0 (x 1) (x 2))
  congr 1
  funext a; apply Fin.ext; fin_cases a
  · show (x 0).val = 0; have : (x 0).val < 1 := (x 0).isLt; omega
  · rfl
  · rfl

/-- What the loads read. -/
theorem load_a (c : Dev nD) : xsM.view.readAt (Elt F) (Rect.unit (s := S4096x256) (k0_off6 c) S256x256.size (k0_off6_inb c)).toLoadRect (xsF X c) = aV X c := by
  refine funext fun (x : S256x256.Idx) => ?_
  exact congrArg (xsF X c) (emb_unit2 (k0_off6 c) (k0_off6_inb c) x (rowOf c (x 0)) (x 1) (by rw [off6_all c]; rfl) (by rw [off6_all c]; exact Nat.zero_add _))
theorem load_g (c : Dev nD) {s : ℕ} (h1 : 1 ≤ s) (h2 : s < 16) :
    xgM.view.readAt (Elt F) (Rect.unit (s := S16x256x256) (k0_off9 c (w15 s)) S1x256x256.size (k0_off9_inb c (ix15 s))).toLoadRect (xgF X c) = gV X c s := by
  refine funext fun (x : S1x256x256.Idx) => ?_
  exact congrArg (xgF X c) (emb_unit3 (k0_off9 c (w15 s)) (k0_off9_inb c (ix15 s)) x (src c s) (x 1) (x 2) (by rw [off9_at c h1 h2]; have : (x 0).val < 1 := (x 0).isLt; show (src c s).val + (x 0).val = (src c s).val; omega)
    (by rw [off9_at c h1 h2]; exact Nat.zero_add _) (by rw [off9_at c h1 h2]; exact Nat.zero_add _))
theorem load_w (c : Dev nD) (s : ℕ) : wbM.view.readAt (Elt F) (wRect s).toLoadRect (wbF Wt c s) = wV Wt c s := by
  refine funext fun (x : S1x256x8192.Idx) => ?_
  exact congrArg (wbF Wt c s) (emb_unit3 ![s % 3, 0, 0] (mod3_inb s) x (slot s) (x 1) (x 2) (by have : (x 0).val < 1 := (x 0).isLt; show s % 3 + (x 0).val = s % 3; omega)
    (Nat.zero_add _) (Nat.zero_add _))
theorem load_am (f : Vec F S16x8x128 .f32) : amM.view.readAt (Elt F) (Rect.unit (s := S16x8x128) ![0, 0, 0] S16x8x128.size inb_S16x8x128_S16x8x128_0_0_0).toLoadRect f = f :=
  Memref.readAt_unit_zero (Elt F) cc0_scratch3 (funext fun a => by fin_cases a <;> rfl) _ _
theorem load_x (f : Vec F S4096x256 .f32) : xM.view.readAt (Elt F) xRect.toLoadRect f = f :=
  Memref.readAt_unit_zero (Elt F) cc0_stg0_0 (funext fun a => by fin_cases a <;> rfl) _ _
theorem load_o (f : Vec F S256x8192 .f32) : oM.view.readAt (Elt F) oRect.toLoadRect f = f :=
  Memref.readAt_unit_zero (Elt F) cc0_stg1_0 (funext fun a => by fin_cases a <;> rfl) _ _
theorem write_o (f w : Vec F S256x8192 .f32) : (oM.access oRect : View sig .tc _ _ _).write (Elt F) f w Finset.univ = w :=
  Memref.write_access_unit_zero_univ (Elt F) cc0_stg1_0 (funext fun a => by fin_cases a <;> rfl) _ f w
theorem write_xs (f w : Vec F S4096x256 .bf16) : (xsM.access xRect : View sig .tc _ _ _).write (Elt F) f w Finset.univ = w :=
  Memref.write_access_unit_zero_univ (Elt F) cc0_scratch0 (funext fun a => by fin_cases a <;> rfl) _ f w

end Contents

end Cert.KernelProof

end
-- ==== Proof.Proto.lean ====
/-
  The protocol the sixteen devices follow: the semaphores as cells, what each cell's units hand over (the schedule),
  what every device owes at the start, and the levels that keep the waits from forming a cycle.
-/
module

public import proofs.«01_k».proof.Proof.Geo
public import Idealize.ShloMosaic.Lib.Pipeline.Launch
public import Idealize.ShloMosaic.Lib.Pipeline.Kit
public import Idealize.ShloMosaic.Lib.Rounds.Family
public import Idealize.ShloMosaic.Lib.ShareLeaves
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Cells -/

/-- The kernel's own semaphores: sixteen of each of four kinds (0: blocks of `x` sent, 1: blocks of `x` received,
2: maxima sent, 3: maxima received), and three for the weights' slots. -/
abbrev Own : Type := (Fin 4 × Fin 16) ⊕ Fin 3

def base : Fin 4 → ℕ := ![2, 18, 37, 53]
theorem base_lt (k : Fin 4) (j : Fin 16) : base k + j.val < 69 := by
  have := j.isLt
  have h : base k ≤ 53 := by revert k; decide
  omega

/-- Each of them as the device numbers it. -/
def dsem : Own → DmaSem sig
  | .inl (k, j) => ⟨base k + j.val, base_lt k j⟩
  | .inr i => ⟨34 + i.val, by have := i.isLt; show 34 + i.val < 69; omega⟩

/-- The semaphores the protocol runs on: the barrier's and the kernel's own. -/
def csem : Option Own → SemLoc sig
  | none => .reg barS
  | some o => .dma (dsem o)
def osem : Own → SemLoc sig := fun o => .dma (dsem o)

theorem csem_inj : Function.Injective csem := by
  have h : ∀ a b : Option Own, csem a = csem b → a = b := by decide +kernel
  exact fun a b => h a b

/-- The protocol's name of a semaphore, if it is one of its own. -/
def decode : SemLoc sig → Option (Option Own) := Function.partialInv csem
theorem decode_csem (k : Option Own) : decode (csem k) = some k := Function.partialInv_left csem_inj k
theorem decode_bar : decode (.reg barS) = some none := decode_csem none
theorem decode_dma (o : Own) : decode (.dma (dsem o)) = some (some o) := decode_csem (some o)

abbrev barC (c : Dev nD) : GSem nD τ sig := ((c : Thread nD τ), .reg barS)
abbrev dmaC (c : Dev nD) (o : Own) : GSem nD τ sig := ((c : Thread nD τ), .dma (dsem o))
abbrev kc (ck : Dev nD × Option Own) : GSem nD τ sig := ((ck.1 : Thread nD τ), csem ck.2)
abbrev sndC (c : Dev nD) (j : Fin 16) : GSem nD τ sig := dmaC c (.inl (0, j))
abbrev rcvC (c : Dev nD) (j : Fin 16) : GSem nD τ sig := dmaC c (.inl (1, j))
abbrev amsC (c : Dev nD) (j : Fin 16) : GSem nD τ sig := dmaC c (.inl (2, j))
abbrev amrC (c : Dev nD) (j : Fin 16) : GSem nD τ sig := dmaC c (.inl (3, j))
abbrev wgtC (c : Dev nD) (i : Fin 3) : GSem nD τ sig := dmaC c (.inr i)

/-! The printed semaphores are these. -/

set_option maxRecDepth 65536 in
theorem dst4_all : ∀ (c : Dev nD) (r : Fin 15), ((cc0_scratch4.slice (Rect.unit (s := S16) (k0_off2 c (BitVec.ofNat 32 (1 + r.val))) S1.size (k0_off2_inb c r))).squeeze S_ squeezes_S1_S_).sem = dsem (.inl (0, dst c (1 + r.val))) := by decide +kernel
set_option maxRecDepth 65536 in
theorem dst7_all : ∀ (c : Dev nD) (r : Fin 15), ((cc0_scratch7.slice (Rect.unit (s := S16) (k0_off2 c (BitVec.ofNat 32 (1 + r.val))) S1.size (k0_off2_inb c r))).squeeze S_ squeezes_S1_S_).sem = dsem (.inl (2, dst c (1 + r.val))) := by decide +kernel
set_option maxRecDepth 65536 in
theorem src5_all : ∀ (c : Dev nD) (r : Fin 15), ((cc0_scratch5.slice (Rect.unit (s := S16) (k0_off7 c (BitVec.ofNat 32 (1 + r.val))) S1.size (k0_off7_inb c r))).squeeze S_ squeezes_S1_S_).sem = dsem (.inl (1, src c (1 + r.val))) := by decide +kernel
set_option maxRecDepth 65536 in
theorem src8_all : ∀ (c : Dev nD) (r : Fin 15), ((cc0_scratch8.slice (Rect.unit (s := S16) (k0_off7 c (BitVec.ofNat 32 (1 + r.val))) S1.size (k0_off7_inb c r))).squeeze S_ squeezes_S1_S_).sem = dsem (.inl (3, src c (1 + r.val))) := by decide +kernel
theorem own5_eq : ∀ (c : Dev nD), semOwn cc0_scratch5 c = dsem (.inl (1, c)) := by decide +kernel
theorem own8_eq : ∀ (c : Dev nD), semOwn cc0_scratch8 c = dsem (.inl (3, c)) := by decide +kernel

theorem dst4_eq (c : Dev nD) {s : ℕ} (h1 : 1 ≤ s) (h2 : s < 16) : semDst cc0_scratch4 c s = dsem (.inl (0, dst c s)) := by
  have h := dst4_all c (ix15 s); rw [show dst c (1 + (ix15 s).val) = dst c s by rw [ix15_val h1 h2]] at h; exact h
theorem dst7_eq (c : Dev nD) {s : ℕ} (h1 : 1 ≤ s) (h2 : s < 16) : semDst cc0_scratch7 c s = dsem (.inl (2, dst c s)) := by
  have h := dst7_all c (ix15 s); rw [show dst c (1 + (ix15 s).val) = dst c s by rw [ix15_val h1 h2]] at h; exact h
theorem src5_eq (c : Dev nD) {s : ℕ} (h1 : 1 ≤ s) (h2 : s < 16) : semSrc cc0_scratch5 c s = dsem (.inl (1, src c s)) := by
  have h := src5_all c (ix15 s); rw [show src c (1 + (ix15 s).val) = src c s by rw [ix15_val h1 h2]] at h; exact h
theorem src8_eq (c : Dev nD) {s : ℕ} (h1 : 1 ≤ s) (h2 : s < 16) : semSrc cc0_scratch8 c s = dsem (.inl (3, src c s)) := by
  have h := src8_all c (ix15 s); rw [show src c (1 + (ix15 s).val) = src c s by rw [ix15_val h1 h2]] at h; exact h
theorem wsem_all : ∀ i : Fin 3, wSem i.val = dsem (.inr i) := by decide +kernel
theorem wsem_eq (s : ℕ) : wSem s = dsem (.inr (slot s)) := by
  have h : ∀ (n : ℕ) (hn : n = s % 3) (inb), ((cc0_scratch6.slice (Rect.unit (s := S3) ![n] S1.size inb)).squeeze S_ squeezes_S1_S_).sem = wSem s := by
    rintro _ rfl _; rfl
  exact (h (s % 3 % 3) (Nat.mod_mod _ _) (mod3_sem_inb _)).symm.trans (wsem_all (slot s))

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- What a transfer of a block of `x`, of a maximum, of a block of the weights credits. -/
def NX : ℕ := (xgOwn 0).view.dmaCredit
def NA : ℕ := (amOwn 0).view.dmaCredit
def NW : ℕ := (wDst 0).view.dmaCredit
theorem NX_pos : 0 < NX := View.dmaCredit_pos _ (by decide)
theorem NA_pos : 0 < NA := View.dmaCredit_pos _ (by decide)
theorem NW_pos : 0 < NW := View.dmaCredit_pos _ (by decide)
theorem credit_xgOwn (c : Dev nD) : (xgOwn c).view.dmaCredit = NX := rfl
theorem credit_xgSrc (c : Dev nD) (s : ℕ) : (xgSrc c s).view.dmaCredit = NX := rfl
theorem credit_xsSrc (c : Dev nD) (s : ℕ) : (xsSrc c s).view.dmaCredit = NX := by rfl
theorem credit_amOwn (c : Dev nD) : (amOwn c).view.dmaCredit = NA := rfl
theorem credit_amSrc (c : Dev nD) (s : ℕ) : (amSrc c s).view.dmaCredit = NA := rfl
theorem credit_wDst (s : ℕ) : (wDst s).view.dmaCredit = NW := rfl

/-! ## What the cells' units hand over -/

section Sched

variable (X : Dev nD → Vec F S4096x256 .f32) (Wt : Dev nD → Vec F S4096x8192 .f32)

abbrev lf (j : Fin 16) : PosShare TreeShare := ShareLeaves.leaf 4 fullShare j

/-- Device `c`'s narrow `x` on `I`, its weights on `I`, its gathered blocks on `I`, its maxima on `I` at share `q`, slot `i` of
its weights' buffer as step `s` fills it. -/
def xsPts (c : Dev nD) (I : Finset S4096x256.Idx) : sProp 𝕄 := ((c : Thread nD τ).loc cc0_scratch0) ↦[I]{fullShare} (xsF X c)
def wPts (c : Dev nD) (I : Finset S4096x8192.Idx) : sProp 𝕄 := ((c : Thread nD τ).loc main_arg1) ↦[I]{fullShare} (Wt c)
def xgPts (c : Dev nD) (I : Finset S16x256x256.Idx) : sProp 𝕄 := ((c : Thread nD τ).loc cc0_scratch1) ↦[I]{fullShare} (xgF X c)
def amPts (c : Dev nD) (I : Finset S16x8x128.Idx) (q : PosShare TreeShare) : sProp 𝕄 := ((c : Thread nD τ).loc cc0_scratch3) ↦[I]{q} (amF X Wt)
def wbPts (c : Dev nD) (s : ℕ) : sProp 𝕄 := ((c : Thread nD τ).loc cc0_scratch2) ↦[bBlk (slot s)]{fullShare} (wbF Wt c s)
/-- The same places at any contents. -/
def xgAny (c : Dev nD) (I : Finset S16x256x256.Idx) : sProp 𝕄 := iprop(∃ f, ((c : Thread nD τ).loc cc0_scratch1) ↦[I]{fullShare} f)
def amAny (c : Dev nD) (I : Finset S16x8x128.Idx) : sProp 𝕄 := iprop(∃ f, ((c : Thread nD τ).loc cc0_scratch3) ↦[I]{fullShare} f)
def wbAny (c : Dev nD) (i : Fin 3) : sProp 𝕄 := iprop(∃ f, ((c : Thread nD τ).loc cc0_scratch2) ↦[bBlk i]{fullShare} f)

instance (c : Dev nD) (I) : BI.Storable (upEmb : UEmb _ 𝕄) (xsPts (F := F) X c I) := by unfold xsPts; infer_instance
instance (c : Dev nD) (I) : BI.Storable (upEmb : UEmb _ 𝕄) (wPts (F := F) Wt c I) := by unfold wPts; infer_instance
instance (c : Dev nD) (I) : BI.Storable (upEmb : UEmb _ 𝕄) (xgPts (F := F) X c I) := by unfold xgPts; infer_instance
instance (c : Dev nD) (I q) : BI.Storable (upEmb : UEmb _ 𝕄) (amPts (F := F) X Wt c I q) := by unfold amPts; infer_instance
instance (c : Dev nD) (s) : BI.Storable (upEmb : UEmb _ 𝕄) (wbPts (F := F) Wt c s) := by unfold wbPts; infer_instance
instance (c : Dev nD) (I) : BI.Storable (upEmb : UEmb _ 𝕄) (xgAny (F := F) c I) := by unfold xgAny; infer_instance
instance (c : Dev nD) (I) : BI.Storable (upEmb : UEmb _ 𝕄) (amAny (F := F) c I) := by unfold amAny; infer_instance

/-- What a cell's units hand its owner `c`. A peer `p`'s barrier unit: the places on `p` where `c`'s transfers land. A
received unit: the landed block. A sent unit: the block sent (of the maximum, the share lent to that transfer). A
weights' unit: the filled slot and the block copied. -/
def payK (c : Dev nD) : Option Own → ℕ → Fin 16 → sProp 𝕄
  | none, _, p => iprop(xgAny p (gBlk c) ∗ amAny p (aBlk c))
  | some (.inl (k, j)), _, _ => match k with
    | 0 => xsPts X c (xBlk j)
    | 1 => xgPts X c (gBlk j)
    | 2 => amPts X Wt c (aBlk c) (lf j)
    | 3 => amPts X Wt c (aBlk j) fullShare
  | some (.inr i), r, _ => iprop(wbPts Wt c (3 * r + i.val) ∗ wPts Wt c (wBlk (src c (3 * r + i.val))))
/-- The contributors to a round: to the barrier every other device, to a sent or received cell of another device the one
transfer, to a slot its one copy of that round, of which there are sixteen in all. -/
def dutK (c : Dev nD) : Option Own → ℕ → Finset (Fin 16)
  | none, r => if r = 0 then Finset.univ.erase c else ∅
  | some (.inl (_, j)), r => if r = 0 ∧ j ≠ c then {0} else ∅
  | some (.inr i), r => if 3 * r + i.val < 16 then {0} else ∅
/-- The units a contribution brings. -/
def amtK : Option Own → ℕ
  | none => 1
  | some (.inl (k, _)) => if k.val < 2 then NX else NA
  | some (.inr _) => NW

theorem amtK_pos (k : Option Own) : 0 < amtK k := by
  rcases k with _ | (⟨k, j⟩ | i)
  · exact Nat.one_pos
  · unfold amtK; dsimp only; split
    · exact NX_pos
    · exact NA_pos
  · exact NW_pos

instance payK_storable (c : Dev nD) (k r d) : BI.Storable (upEmb : UEmb _ 𝕄) (payK (F := F) X Wt c k r d) := by
  rcases k with _ | (⟨k, j⟩ | i)
  · unfold payK; infer_instance
  · unfold payK; dsimp only; split <;> infer_instance
  · unfold payK; infer_instance

/-- The schedule. -/
def Rd : Rounds.Schedule (GSem nD τ sig) (Fin 16) 𝕄 where
  duties g r := match decode g.2 with | some k => dutK g.1.1 k r | none => ∅
  unitless _ := False
  amount g _ _ := match decode g.2 with | some k => amtK k | none => 1
  payload g r d := match decode g.2 with | some k => payK X Wt g.1.1 k r d | none => iprop(emp)
  amount_pos g _ _ _ := by
    rcases h : decode g.2 with _ | k
    · exact Nat.one_pos
    · exact amtK_pos k

instance Rd_payload_storable (g : GSem nD τ sig) (r : ℕ) (d : Fin 16) : BI.Storable (upEmb : UEmb _ 𝕄) ((Rd (F := F) X Wt).payload g r d) := by
  unfold Rd; dsimp only; split <;> infer_instance

theorem duties_kc (c : Dev nD) (k r) : (Rd (F := F) X Wt).duties (kc (c, k)) r = dutK c k r := by unfold Rd; dsimp only; rw [decode_csem]
theorem amount_kc (c : Dev nD) (k r d) : (Rd (F := F) X Wt).amount (kc (c, k)) r d = amtK k := by unfold Rd; dsimp only; rw [decode_csem]
theorem payload_kc (c : Dev nD) (k r d) : (Rd (F := F) X Wt).payload (kc (c, k)) r d = payK X Wt c k r d := by unfold Rd; dsimp only; rw [decode_csem]

theorem duties_bar (c : Dev nD) : (Rd (F := F) X Wt).duties (barC c) 0 = Finset.univ.erase c := duties_kc X Wt c none 0
theorem duties_x (c : Dev nD) (k : Fin 4) (j : Fin 16) (h : j ≠ c) : (Rd (F := F) X Wt).duties (dmaC c (.inl (k, j))) 0 = {0} :=
  (duties_kc X Wt c (some (.inl (k, j))) 0).trans (if_pos ⟨rfl, h⟩)
theorem duties_w (c : Dev nD) (s : ℕ) (h : s < 16) : (Rd (F := F) X Wt).duties (wgtC c (slot s)) (s / 3) = {0} :=
  (duties_kc X Wt c (some (.inr (slot s))) _).trans (if_pos (by show 3 * (s / 3) + s % 3 < 16; omega))
theorem amount_bar (c : Dev nD) (r d) : (Rd (F := F) X Wt).amount (barC c) r d = 1 := amount_kc X Wt c none r d
theorem amount_x (c : Dev nD) (k : Fin 4) (hk : k.val < 2) (j : Fin 16) (r d) : (Rd (F := F) X Wt).amount (dmaC c (.inl (k, j))) r d = NX :=
  (amount_kc X Wt c (some (.inl (k, j))) r d).trans (if_pos hk)
theorem amount_a (c : Dev nD) (k : Fin 4) (hk : ¬ k.val < 2) (j : Fin 16) (r d) : (Rd (F := F) X Wt).amount (dmaC c (.inl (k, j))) r d = NA :=
  (amount_kc X Wt c (some (.inl (k, j))) r d).trans (if_neg hk)
theorem amount_w (c : Dev nD) (i r d) : (Rd (F := F) X Wt).amount (wgtC c i) r d = NW := amount_kc X Wt c (some (.inr i)) r d
theorem payload_bar (c : Dev nD) (p : Fin 16) : (Rd (F := F) X Wt).payload (barC c) 0 p = iprop(xgAny p (gBlk c) ∗ amAny p (aBlk c)) := payload_kc X Wt c none 0 p
theorem payload_snd (c : Dev nD) (j r d) : (Rd (F := F) X Wt).payload (sndC c j) r d = xsPts X c (xBlk j) := payload_kc X Wt c (some (.inl (0, j))) r d
theorem payload_rcv (c : Dev nD) (j r d) : (Rd (F := F) X Wt).payload (rcvC c j) r d = xgPts X c (gBlk j) := payload_kc X Wt c (some (.inl (1, j))) r d
theorem payload_ams (c : Dev nD) (j r d) : (Rd (F := F) X Wt).payload (amsC c j) r d = amPts X Wt c (aBlk c) (lf j) := payload_kc X Wt c (some (.inl (2, j))) r d
theorem payload_amr (c : Dev nD) (j r d) : (Rd (F := F) X Wt).payload (amrC c j) r d = amPts X Wt c (aBlk j) fullShare := payload_kc X Wt c (some (.inl (3, j))) r d
theorem payload_w (c : Dev nD) (s : ℕ) (d) : (Rd (F := F) X Wt).payload (wgtC c (slot s)) (s / 3) d = iprop(wbPts Wt c s ∗ wPts Wt c (wBlk (src c s))) := by
  have h := payload_kc X Wt c (some (.inr (slot s))) (s / 3) d
  rw [show payK X Wt c (some (.inr (slot s))) (s / 3) d = iprop(wbPts Wt c (3 * (s / 3) + s % 3) ∗ wPts Wt c (wBlk (src c (3 * (s / 3) + s % 3)))) from rfl, Nat.div_add_mod] at h
  exact h

theorem expect_bar (c : Dev nD) : (Rd (F := F) X Wt).expect (barC c) 0 = 15 := by
  unfold Schedule.expect Schedule.amountOf
  rw [duties_bar, Finset.sum_congr rfl fun d _ => amount_bar X Wt c 0 d, Finset.sum_const, Finset.card_erase_of_mem (Finset.mem_univ _), Finset.card_univ, Fintype.card_fin]; rfl
theorem expect_x (c : Dev nD) (k : Fin 4) (hk : k.val < 2) (j : Fin 16) (h : j ≠ c) : (Rd (F := F) X Wt).expect (dmaC c (.inl (k, j))) 0 = NX := by
  unfold Schedule.expect Schedule.amountOf; rw [duties_x X Wt c k j h, Finset.sum_singleton, amount_x X Wt c k hk]
theorem expect_a (c : Dev nD) (k : Fin 4) (hk : ¬ k.val < 2) (j : Fin 16) (h : j ≠ c) : (Rd (F := F) X Wt).expect (dmaC c (.inl (k, j))) 0 = NA := by
  unfold Schedule.expect Schedule.amountOf; rw [duties_x X Wt c k j h, Finset.sum_singleton, amount_a X Wt c k hk]
theorem expect_w (c : Dev nD) (s : ℕ) (h : s < 16) : (Rd (F := F) X Wt).expect (wgtC c (slot s)) (s / 3) = NW := by
  unfold Schedule.expect Schedule.amountOf; rw [duties_w X Wt c s h, Finset.sum_singleton, amount_w]

theorem rest_one (g : GSem nD τ sig) (r : ℕ) (h : (Rd (F := F) X Wt).duties g r = {0}) :
    bigSep ((Rd (F := F) X Wt).duties g r \ ∅) (fun d => (Rd (F := F) X Wt).payload g r d) = (Rd (F := F) X Wt).payload g r 0 := by
  rw [Finset.sdiff_empty, h, bigSep_singleton]
theorem rest_bar (c : Dev nD) : bigSep ((Rd (F := F) X Wt).duties (barC c) 0 \ ∅) (fun d => (Rd (F := F) X Wt).payload (barC c) 0 d)
    = bigSep (Finset.univ.erase c) (fun p : Dev nD => iprop(xgAny p (gBlk c) ∗ amAny p (aBlk c))) := by
  rw [Finset.sdiff_empty, duties_bar]; exact bigSep_congr fun p _ => payload_bar X Wt c p

end Sched

/-! ## What each device owes, and the levels -/

/-- Device `c`'s signals, transfers of `x` and transfers of its maximum from step `s` on. -/
def OB (c : Dev nD) (s : ℕ) : CellTallies nD τ sig Unit := ∑ t ∈ Finset.Ico s 16, tallyAt (barC (dst c t)) () 1
def OX (c : Dev nD) (s : ℕ) : CellTallies nD τ sig Unit := ∑ t ∈ Finset.Ico s 16, tallyAt (rcvC (dst c t) c) () NX
def OA (c : Dev nD) (s : ℕ) : CellTallies nD τ sig Unit := ∑ t ∈ Finset.Ico s 16, tallyAt (amrC (dst c t) c) () NA
def O₀ (c : Dev nD) : CellTallies nD τ sig Unit := OA c 1 + OX c 1 + OB c 1

theorem sum_Ico_head {M : Type} [AddCommMonoid M] (f : ℕ → M) {s : ℕ} (h : s < 16) :
    ∑ t ∈ Finset.Ico s 16, f t = ∑ t ∈ Finset.Ico (s + 1) 16, f t + f s := by
  have e : Finset.Ico s 16 = insert s (Finset.Ico (s + 1) 16) := by
    ext t; simp only [Finset.mem_Ico, Finset.mem_insert]; omega
  rw [e, Finset.sum_insert (by simp), add_comm]
theorem OB_peel (c : Dev nD) {s : ℕ} (h : s < 16) : OB c s = OB c (s + 1) + tallyAt (barC (dst c s)) () 1 := by
  unfold OB; rw [sum_Ico_head _ h]
theorem OX_peel (c : Dev nD) {s : ℕ} (h : s < 16) : OX c s = OX c (s + 1) + tallyAt (rcvC (dst c s) c) () NX := by
  unfold OX; rw [sum_Ico_head _ h]
theorem OA_peel (c : Dev nD) {s : ℕ} (h : s < 16) : OA c s = OA c (s + 1) + tallyAt (amrC (dst c s) c) () NA := by
  unfold OA; rw [sum_Ico_head _ h]
theorem OB_end (c : Dev nD) : OB c 16 = 0 := by unfold OB; rw [Finset.Ico_self, Finset.sum_empty]
theorem OX_end (c : Dev nD) : OX c 16 = 0 := by unfold OX; rw [Finset.Ico_self, Finset.sum_empty]
theorem OA_end (c : Dev nD) : OA c 16 = 0 := by unfold OA; rw [Finset.Ico_self, Finset.sum_empty]

theorem sum_tally_pos {S : Finset ℕ} {gs : ℕ → GSem nD τ sig} {n : ℕ} {g : GSem nD τ sig} {u : Unit}
    (h : 0 < (∑ t ∈ S, tallyAt (gs t) () n : CellTallies nD τ sig Unit) g u) : ∃ t ∈ S, g = gs t := by
  by_contra hn
  rw [Finset.sum_apply, Finsupp.finset_sum_apply] at h
  rw [Finset.sum_eq_zero] at h
  · exact Nat.lt_irrefl 0 h
  · intro t ht
    rw [tallyAt_apply, if_neg fun h' => hn ⟨t, ht, h'.1⟩]

def L (g : GSem nD τ sig) : Finset Unit := if g.1.2 = .tc then {()} else ∅
def lvK : Option Own → ℕ
  | none => 1
  | some (.inl (k, _)) => if k = 1 then 2 else if k = 3 then 3 else 0
  | some (.inr _) => 0
/-- The barrier at 1, received blocks at 2, received maxima at 3, everything else at 0. -/
def lv (g : GSem nD τ sig) (_ : Unit) : ℕ := match decode g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kc (c : Dev nD) (k : Option Own) : lv (kc (c, k)) () = lvK k := by unfold lv; dsimp only; rw [decode_csem]
theorem lv_bar (c : Dev nD) : lv (barC c) () = 1 := lv_kc c none
theorem lv_rcv (c : Dev nD) (j) : lv (rcvC c j) () = 2 := lv_kc c (some (.inl (1, j)))
theorem lv_amr (c : Dev nD) (j) : lv (amrC c j) () = 3 := lv_kc c (some (.inl (3, j)))
theorem lv_wgt (c : Dev nD) (i) : lv (wgtC c i) () = 0 := lv_kc c (some (.inr i))

theorem OB_pos {c : Dev nD} {s : ℕ} {g : GSem nD τ sig} {u : Unit} (h : 0 < OB c s g u) : g.1.2 = .tc ∧ lv g () = 1 := by
  obtain ⟨t, -, rfl⟩ := sum_tally_pos h; exact ⟨rfl, lv_bar _⟩
theorem OX_pos {c : Dev nD} {s : ℕ} {g : GSem nD τ sig} {u : Unit} (h : 0 < OX c s g u) : g.1.2 = .tc ∧ lv g () = 2 := by
  obtain ⟨t, -, rfl⟩ := sum_tally_pos h; exact ⟨rfl, lv_rcv _ _⟩
theorem OA_pos {c : Dev nD} {s : ℕ} {g : GSem nD τ sig} {u : Unit} (h : 0 < OA c s g u) : g.1.2 = .tc ∧ lv g () = 3 := by
  obtain ⟨t, -, rfl⟩ := sum_tally_pos h; exact ⟨rfl, lv_amr _ _⟩

/-- A device may wait on a cell whose level lies below every cell it still owes. -/
theorem mayWait (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

/-- Below level 3 while only maxima are owed; -/
theorem below_OA (c : Dev nD) (sm : SemLoc sig) (s : ℕ) (hl : lv ((c : Thread nD τ), sm) () < 3) :
    ∀ g u, 0 < OA c s g u → g.1.2 = .tc ∧ lv ((c : Thread nD τ), sm) () < lv g () := fun g u hg => by
  have h := OA_pos hg; exact ⟨h.1, by rw [h.2]; exact hl⟩
/-- below level 2 while blocks and maxima are owed; -/
theorem below_OX (c : Dev nD) (sm : SemLoc sig) (s s' : ℕ) (hl : lv ((c : Thread nD τ), sm) () < 2) :
    ∀ g u, 0 < (OA c s + OX c s') g u → g.1.2 = .tc ∧ lv ((c : Thread nD τ), sm) () < lv g () := fun g u hg => by
  rw [Pi.add_apply, Finsupp.add_apply] at hg
  rcases Nat.eq_zero_or_pos (OA c s g u) with h0 | h0
  · have h := OX_pos (c := c) (s := s') (g := g) (u := u) (by omega); exact ⟨h.1, by rw [h.2]; exact hl⟩
  · have h := OA_pos h0; exact ⟨h.1, by rw [h.2]; omega⟩
/-- and at level 0 from the start. -/
theorem below_O₀ (c : Dev nD) (sm : SemLoc sig) (hl : lv ((c : Thread nD τ), sm) () = 0) :
    ∀ g u, 0 < O₀ c g u → g.1.2 = .tc ∧ lv ((c : Thread nD τ), sm) () < lv g () := fun g u hg => by
  unfold O₀ at hg; rw [Pi.add_apply, Finsupp.add_apply] at hg
  rcases Nat.eq_zero_or_pos ((OA c 1 + OX c 1) g u) with h0 | h0
  · have h := OB_pos (c := c) (s := 1) (g := g) (u := u) (by omega); exact ⟨h.1, by rw [h.2, hl]; exact Nat.one_pos⟩
  · exact below_OX c sm 1 1 (by omega) g u h0

end Cert.KernelProof

end
-- ==== Proof.Steps.lean ====
/-
  Every operation of the kernel's body, once: what a device needs to run it and what it then has.
-/
module

public import proofs.«01_k».proof.Proof.Proto

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Programs in sequence -/

/-- Device `c` runs `p` and then `Q` holds. -/
abbrev run (c : Dev nD) {α : Type} (p : P F α) (Q : α → sProp 𝕄) : sProp 𝕄 :=
  wp frame (wpE (defs₀ (F := F)) 𝒱₀ (c : Thread nD τ) none) Set.univ p Q

theorem run_bind (c : Dev nD) {α β : Type} (p : P F α) (k : α → P F β) (Q : β → sProp 𝕄) :
    run c (p >>= k) Q = run c p (fun a => run c (k a) Q) := wp_bind _ _ _ p k Q

/-- A program run to `B`, whatever follows from `B`. -/
theorem run_use {c : Dev nD} {α : Type} {p : P F α} {A : sProp 𝕄} {B Q : α → sProp 𝕄} (h : A ⊢ run c p B) :
    A ⊢ iprop((∀ a, B a -∗ Q a) -∗ run c p Q) := h.trans (wp_wand _ _ _)

theorem run_seq {c : Dev nD} {α : Type} {p : P F PUnit} {q : P F α} {A B : sProp 𝕄} {Q : α → sProp 𝕄}
    (h : A ⊢ run c p (fun _ => B)) (h' : B ⊢ run c q Q) : A ⊢ run c (p >>= fun _ => q) Q := by
  rw [run_bind]; exact h.trans (wp_mono _ _ _ fun _ => h')

/-- A run of numbered steps keeps an invariant that every step carries to the next. -/
theorem run_steps {c : Dev nD} (f : ℕ → P F PUnit) (I : ℕ → sProp 𝕄) :
    ∀ (n a : ℕ), (∀ s, a ≤ s → s < a + n → I s ⊢ run c (f s) (fun _ => I (s + 1))) → I a ⊢ run c (steps f n a) (fun _ => I (a + n))
  | 0, a, _ => by
    show I a ⊢ run c (Prog.ret PUnit.unit : P F PUnit) (fun _ => I a)
    rw [run, wp_ret]; exact fupd_intro
  | n + 1, a, h => by
    have ih := run_steps f I n (a + 1) fun s h1 h2 => h s (by omega) (by omega)
    rw [show a + 1 + n = a + (n + 1) by omega] at ih
    exact run_seq (h a (Nat.le_refl _) (by omega)) ih

section Ops

variable (X : Dev nD → Vec F S4096x256 .f32) (Wt : Dev nD → Vec F S4096x8192 .f32) (K : Dev nD × Option Own → ℕ)

/-- What is known of the cells throughout: each is allocated under a name, is at round 0 at least, and has its level. -/
def recs : sProp 𝕄 :=
  iprop((bigSep Finset.univ fun ck => cellInv ER (Rd X Wt) (K ck) (kc ck)) ∗ (bigSep Finset.univ fun ck => reached ER (kc ck) 0) ∗ levAts L lv)

instance recs_persistent : BI.Persistent (recs (F := F) X Wt K) := by unfold recs; infer_instance

theorem inv_at (ck : Dev nD × Option Own) : recs (F := F) X Wt K ⊢ cellInv ER (Rd X Wt) (K ck) (kc ck) := by
  have h : (bigSep Finset.univ fun ck => cellInv ER (Rd (F := F) X Wt) (K ck) (kc ck)) ⊢ cellInv ER (Rd X Wt) (K ck) (kc ck) := bigSep_elim (Finset.mem_univ ck)
  unfold recs; iintro ⟨H, -, -⟩; iapply h; iexact H
theorem reached_at (ck : Dev nD × Option Own) : recs (F := F) X Wt K ⊢ reached ER (kc ck) 0 := by
  have h : (bigSep Finset.univ fun ck => reached ER (kc ck) 0 : sProp 𝕄) ⊢ reached ER (kc ck) 0 := bigSep_elim (Finset.mem_univ ck)
  unfold recs; iintro ⟨-, H, -⟩; iapply h; iexact H
theorem levs : recs (F := F) X Wt K ⊢ levAts L lv := by unfold recs; iintro ⟨-, -, H⟩; iexact H
theorem inv_bar (c : Dev nD) : recs (F := F) X Wt K ⊢ cellInv ER (Rd X Wt) (K (c, none)) (barC c) := inv_at X Wt K (c, none)
theorem inv_dma (c : Dev nD) (o : Own) : recs (F := F) X Wt K ⊢ cellInv ER (Rd X Wt) (K (c, some o)) (dmaC c o) := inv_at X Wt K (c, some o)
theorem reached_bar (c : Dev nD) : recs (F := F) X Wt K ⊢ reached ER (barC c) 0 := reached_at X Wt K (c, none)
theorem reached_dma (c : Dev nD) (o : Own) : recs (F := F) X Wt K ⊢ reached ER (dmaC c o) 0 := reached_at X Wt K (c, some o)

/-- Device `c` owes `O` (and has waited on some cells). -/
def owing (c : Dev nD) (O : CellTallies nD τ sig Unit) : sProp 𝕄 := iprop(∃ W : Waits sig Unit, owes (c : Thread nD τ) O W)

set_option maxRecDepth 8000 in
/-- The evidence a wait needs, from what is known throughout. -/
theorem recs_mayWait (c : Dev nD) (sm : SemLoc sig) (O : CellTallies nD τ sig Unit)
    (h : ∀ g u, 0 < O g u → g.1.2 = .tc ∧ lv ((c : Thread nD τ), sm) () < lv g ()) :
    recs (F := F) X Wt K ⊢ MayWait (c : Thread nD τ) sm () O := (levs X Wt K).trans (mayWait c sm O h)

/-! ## The barrier -/

/-- A signal to the device `s` places on hands it the places its transfers to `c` land in. -/
theorem st_signal (c : Dev nD) {s : ℕ} (h1 : 1 ≤ s) (h2 : s < 16) (O : CellTallies nD τ sig Unit) :
    iprop(recs X Wt K ∗ owing c (O + tallyAt (barC (dst c s)) () 1) ∗ dutyTok ER (barC (dst c s)) 0 c
        ∗ xgAny c (gBlk (dst c s)) ∗ amAny c (aBlk (dst c s)))
      ⊢ run c (signalAt (F := F) c s) (fun _ => owing c O) := by
  unfold signalAt semSignalWord owing
  rw [sigDev_eq c h1 h2]
  iintro ⟨#HR, ⟨%W, HO⟩, Ht, Hx, Ha⟩
  iapply (Rounds.wp_signal 𝒱₀ ER (Rd X Wt) (c : Thread nD τ) none (dst := (dst c s : Thread nD τ)) (κ := K (dst c s, none))
      (r := 0) (d := c) (by rw [duties_bar]; exact Finset.mem_erase.2 ⟨(dst_ne c s h1 h2).symm, Finset.mem_univ _⟩)
      ((amount_bar X Wt (dst c s) 0 c).trans (by decide)) () O rfl) $$ [HO Ht Hx Ha]
  · isplitr; · iapply (inv_bar X Wt K (dst c s)); iexact HR
    isplitl [HO]; · iexact HO
    isplitl [Ht]; · iexact Ht
    isplitl [Hx Ha]
    · rw [payload_bar]; isplitl [Hx]; · iexact Hx
      iexact Ha
    · iapply (reached_bar X Wt K (dst c s)); iexact HR
  iintro HO
  rw [wp_ret]; imodintro
  iexists W; iexact HO

/-- The barrier's wait: every other device's places for `c`'s transfers. -/
theorem st_barrier (c : Dev nD) :
    iprop(recs X Wt K ∗ cred (tallyAt (barC c) () 15) ∗ owing c (OA c 1 + OX c 1) ∗ atPos ER (barC c) 0 ∅ 0)
      ⊢ run c (semWaitWord (Val := Elt F) (τ := τ) (Λ := Λ₀) barS 15#32) (fun _ => iprop(owing c (OA c 1 + OX c 1) ∗ atPos ER (barC c) 1 ∅ 0
          ∗ bigSep (Finset.univ.erase c) (fun p : Dev nD => iprop(xgAny p (gBlk c) ∗ amAny p (aBlk c))))) := by
  unfold semWaitWord owing
  iintro ⟨#HR, Hc, ⟨%W, HO⟩, Hat⟩
  iapply (Rounds.wp_wait_rest_token 𝒱₀ ER (Rd X Wt) (c : Thread nD τ) none (κ := K (c, none))
      (wpE_semWait_eq 𝒱₀ (c : Thread nD τ) none Set.univ) (Set.mem_univ _) () (O := OA c 1 + OX c 1) (W := W) (R := 0) (m := 0) (T := ∅)
      (by rw [expect_bar]; decide)) $$ [Hc HO Hat]
  · isplitr; · iapply (inv_bar X Wt K c); iexact HR
    isplitl [Hc]; · iexact Hc
    isplitl [HO]; · iexact HO
    isplitr
    · iapply (recs_mayWait X Wt K c (.reg barS) (OA c 1 + OX c 1) (below_OX c _ 1 1 (by rw [lv_bar]; decide))); iexact HR
    iexact Hat
  iintro ⟨HO, Hat, -, Hpay⟩
  rw [wp_ret]; imodintro
  isplitl [HO]; · iexists _; iexact HO
  isplitl [Hat]; · iexact Hat
  rw [← rest_bar X Wt c]; iexact Hpay

/-! ## A wait on one of the device's own cells with one contribution -/

/-- The wait for the one contribution of a round of cell `o`: its payload. -/
theorem st_wait (c : Dev nD) (o : Own) (q : DmaSem sig) (hq : q = dsem o) (r N : ℕ) (Py : sProp 𝕄) (O : CellTallies nD τ sig Unit)
    (hd : (Rd X Wt).duties (dmaC c o) r = {0}) (hN : (Rd X Wt).expect (dmaC c o) r = N) (hp : (Rd X Wt).payload (dmaC c o) r 0 = Py)
    (hO : ∀ g u, 0 < O g u → g.1.2 = .tc ∧ lv (dmaC c o) () < lv g ())
    {sp sp' : Space} {sh sh' : Shape} {e e' : EltTy} (a : Memref sig .tc sp sh e) (b : Memref sig .tc sp' sh' e') (ha hb)
    (hb' : b.view.dmaCredit = N) :
    iprop(recs X Wt K ∗ cred (tallyAt (dmaC c o) () N) ∗ owing c O ∗ atPos ER (dmaC c o) r ∅ 0)
      ⊢ run c (Prog.lift (.waitDma2 q a b ha hb) : P F PUnit) (fun _ => iprop(owing c O ∗ atPos ER (dmaC c o) (r + 1) ∅ 0 ∗ reached ER (dmaC c o) (r + 1) ∗ Py)) := by
  subst hq; subst hb'
  unfold Prog.lift owing
  iintro ⟨#HR, Hc, ⟨%W, HO⟩, Hat⟩
  iapply (Rounds.wp_wait_rest_token 𝒱₀ ER (Rd X Wt) (c : Thread nD τ) none (κ := K (c, some o))
      (wpE_waitDma2_eq 𝒱₀ (c : Thread nD τ) none Set.univ) (Set.mem_univ _) () (O := O) (W := W) (R := r) (m := 0) (T := ∅)
      (by rw [Nat.zero_add]; exact hN.symm)) $$ [Hc HO Hat]
  · isplitr; · iapply (inv_dma X Wt K c o); iexact HR
    isplitl [Hc]; · iexact Hc
    isplitl [HO]; · iexact HO
    isplitr
    · iapply (recs_mayWait X Wt K c (.dma (dsem o)) O hO); iexact HR
    iexact Hat
  iintro ⟨HO, Hat, Hr, Hpay⟩
  rw [wp_ret]; imodintro
  isplitl [HO]; · iexists _; iexact HO
  isplitl [Hat]; · iexact Hat
  isplitl [Hr]; · iexact Hr
  rw [← hp, ← rest_one X Wt _ _ hd]; iexact Hpay

/-! ## The weights -/

theorem st_copyW_at (c : Dev nD) {s : ℕ} (h2 : s < 16) (q : DmaSem sig) (hq : q = dsem (.inr (slot s))) (ha hb hc) :
    iprop(recs X Wt K ∗ wPts Wt c (wBlk (src c s)) ∗ wbAny c (slot s) ∗ dutyTok ER (wgtC c (slot s)) (s / 3) 0 ∗ reached ER (wgtC c (slot s)) (s / 3))
      ⊢ run c (Prog.lift (.enqueueDma (wSrc c s) (.here (wDst s)) (.dma q) ha hb hc) : P F PUnit) (fun _ => cred (tallyAt (wgtC c (slot s)) () NW)) := by
  subst hq
  unfold Prog.lift wbAny wPts
  iintro ⟨#HR, Hw, ⟨%fd, Hb⟩, Ht, Hr⟩
  iapply (Rounds.wp_copy_pointsTo 𝒱₀ ER (Rd X Wt) (c : Thread nD τ) none (src := wSrc c s) (dst := wDst s) (q := fullShare) (fs := Wt c) (fd := fd)
      (κ := K (c, some (.inr (slot s)))) (r := s / 3) (d := 0)
      (by rw [duties_w X Wt c s h2]; exact Finset.mem_singleton_self _) () NW ((View.amount_dma _ _).trans (credit_wDst s)) (amount_w X Wt c _ _ _)
      (by
        rw [payload_w]
        refine sep_mono (Entails.of_eq ?_) (Entails.of_eq ?_)
        · rw [pointsTo_congr (land_w Wt c h2 fd)]; unfold wbPts; rw [set_wDst]
        · unfold wPts; rw [set_wSrc c h2])) $$ [Hw Hb Ht Hr]
  · isplitr; · iapply (inv_dma X Wt K c (.inr (slot s))); iexact HR
    isplitl [Hw]; · rw [set_wSrc c h2]; iexact Hw
    isplitl [Hb]; · rw [set_wDst]; iexact Hb
    isplitl [Ht]; · iexact Ht
    iexact Hr
  iintro Hc
  rw [wp_ret]; imodintro; iexact Hc

theorem st_copyW (c : Dev nD) {s : ℕ} (h2 : s < 16) :
    iprop(recs X Wt K ∗ wPts Wt c (wBlk (src c s)) ∗ wbAny c (slot s) ∗ dutyTok ER (wgtC c (slot s)) (s / 3) 0 ∗ reached ER (wgtC c (slot s)) (s / 3))
      ⊢ run c (copyW (F := F) c s) (fun _ => cred (tallyAt (wgtC c (slot s)) () NW)) :=
  st_copyW_at X Wt K c h2 _ (wsem_eq s) _ _ _

theorem st_waitW (c : Dev nD) {s : ℕ} (h2 : s < 16) :
    iprop(recs X Wt K ∗ cred (tallyAt (wgtC c (slot s)) () NW) ∗ owing c (OA c 1) ∗ atPos ER (wgtC c (slot s)) (s / 3) ∅ 0)
      ⊢ run c (waitW (F := F) c s) (fun _ => iprop(owing c (OA c 1) ∗ atPos ER (wgtC c (slot s)) (s / 3 + 1) ∅ 0 ∗ reached ER (wgtC c (slot s)) (s / 3 + 1)
          ∗ wbPts Wt c s ∗ wPts Wt c (wBlk (src c s)))) :=
  st_wait X Wt K c (.inr (slot s)) (wSem s) (wsem_eq s) (s / 3) NW _ (OA c 1) (duties_w X Wt c s h2) (expect_w X Wt c s h2) (payload_w X Wt c s 0)
    (below_OA c _ 1 (by rw [lv_wgt]; decide)) _ _ _ _ (credit_wDst s)

/-! ## The blocks of `x` -/

theorem st_sendX_at (c : Dev nD) {s : ℕ} (h1 : 1 ≤ s) (h2 : s < 16) (O : CellTallies nD τ sig Unit)
    (n : Dev nD) (hn : n = dst c s) (q q' : DmaSem sig) (hq : q = dsem (.inl (0, dst c s))) (hq' : q' = dsem (.inl (1, c))) (hs ha hb hc) :
    iprop(recs X Wt K ∗ xsPts X c (xBlk (dst c s)) ∗ xgAny (dst c s) (gBlk c) ∗ owing c (O + tallyAt (rcvC (dst c s) c) () NX)
        ∗ dutyTok ER (sndC c (dst c s)) 0 0 ∗ dutyTok ER (rcvC (dst c s) c) 0 0)
      ⊢ run c (Prog.lift (.enqueueDma (xsSrc c s) (.remote (Dev.tc n) (xgOwn c) (.dma q) hs) (.dma q') ha hb hc) : P F PUnit) (fun _ => iprop(cred (tallyAt (sndC c (dst c s)) () NX) ∗ owing c O)) := by
  subst hn; subst hq; subst hq'
  unfold Prog.lift owing xgAny xsPts
  iintro ⟨#HR, Hx, ⟨%fd, Hg⟩, ⟨%W, HO⟩, Ht, Ht'⟩
  iapply (Rounds.wp_send_pointsTo 𝒱₀ ER (Rd X Wt) (c : Thread nD τ) none (c' := (dst c s : Thread nD τ)) (src := xsSrc c s) (dst := xgOwn c)
      (q := fullShare) (fs := xsF X c) (fd := fd)
      (κ₁ := K (c, some (.inl (0, dst c s)))) (κ₂ := K (dst c s, some (.inl (1, c)))) (r₁ := 0) (r₂ := 0) (d₁ := 0) (d₂ := 0)
      (by rw [duties_x X Wt c 0 (dst c s) (dst_ne c s h1 h2)]; exact Finset.mem_singleton_self _)
      (by rw [duties_x X Wt (dst c s) 1 c (dst_ne c s h1 h2).symm]; exact Finset.mem_singleton_self _)
      () () NX ((View.amount_dma _ _).trans (credit_xgOwn c)) (amount_x X Wt c 0 (by decide) _ _ _) (amount_x X Wt (dst c s) 1 (by decide) _ _ _) O rfl (W := W)
      (by rw [payload_snd]; unfold xsPts; rw [set_xsSrc c h1 h2])
      (by rw [payload_rcv, pointsTo_congr (land_x X c h1 h2 fd)]; unfold xgPts; rw [set_xgOwn])) $$ [Hx Hg HO Ht Ht']
  · isplitr; · iapply (inv_dma X Wt K c (.inl (0, dst c s))); iexact HR
    isplitr; · iapply (inv_dma X Wt K (dst c s) (.inl (1, c))); iexact HR
    isplitl [Hx]; · rw [set_xsSrc c h1 h2]; iexact Hx
    isplitl [Hg]; · rw [set_xgOwn]; iexact Hg
    isplitl [HO]; · iexact HO
    isplitl [Ht]; · iexact Ht
    isplitr; · iapply (reached_dma X Wt K c (.inl (0, dst c s))); iexact HR
    isplitl [Ht']; · iexact Ht'
    iapply (reached_dma X Wt K (dst c s) (.inl (1, c))); iexact HR
  iintro ⟨Hc, HO⟩
  rw [wp_ret]; imodintro
  isplitl [Hc]; · iexact Hc
  iexists W; iexact HO

theorem st_sendX (c : Dev nD) {s : ℕ} (h1 : 1 ≤ s) (h2 : s < 16) (O : CellTallies nD τ sig Unit) :
    iprop(recs X Wt K ∗ xsPts X c (xBlk (dst c s)) ∗ xgAny (dst c s) (gBlk c) ∗ owing c (O + tallyAt (rcvC (dst c s) c) () NX)
        ∗ dutyTok ER (sndC c (dst c s)) 0 0 ∗ dutyTok ER (rcvC (dst c s) c) 0 0)
      ⊢ run c (sendX (F := F) c s) (fun _ => iprop(cred (tallyAt (sndC c (dst c s)) () NX) ∗ owing c O)) :=
  st_sendX_at X Wt K c h1 h2 O _ (sendDev_eq c h1 h2) _ _ (dst4_eq c h1 h2) (own5_eq c) _ _ _ _

theorem st_waitX (c : Dev nD) {s : ℕ} (h1 : 1 ≤ s) (h2 : s < 16) :
    iprop(recs X Wt K ∗ cred (tallyAt (rcvC c (src c s)) () NX) ∗ owing c (OA c 1) ∗ atPos ER (rcvC c (src c s)) 0 ∅ 0)
      ⊢ run c (waitX (F := F) c s) (fun _ => iprop(owing c (OA c 1) ∗ atPos ER (rcvC c (src c s)) 1 ∅ 0 ∗ reached ER (rcvC c (src c s)) 1
          ∗ xgPts X c (gBlk (src c s)))) :=
  st_wait X Wt K c (.inl (1, src c s)) _ (src5_eq c h1 h2) 0 NX _ (OA c 1) (duties_x X Wt c 1 _ (src_ne c s h1 h2)) (expect_x X Wt c 1 (by decide) _ (src_ne c s h1 h2))
    (payload_rcv X Wt c _ 0 0) (below_OA c _ 1 (by rw [lv_rcv]; decide)) _ _ _ _ (credit_xgSrc c s)

/-! ## The maxima -/

theorem st_sendA_at (c : Dev nD) {s : ℕ} (h1 : 1 ≤ s) (h2 : s < 16) (O : CellTallies nD τ sig Unit)
    (n : Dev nD) (hn : n = dst c s) (q q' : DmaSem sig) (hq : q = dsem (.inl (2, dst c s))) (hq' : q' = dsem (.inl (3, c))) (hs ha hb hc) :
    iprop(recs X Wt K ∗ amPts X Wt c (aBlk c) (lf (dst c s)) ∗ amAny (dst c s) (aBlk c) ∗ owing c (O + tallyAt (amrC (dst c s) c) () NA)
        ∗ dutyTok ER (amsC c (dst c s)) 0 0 ∗ dutyTok ER (amrC (dst c s) c) 0 0)
      ⊢ run c (Prog.lift (.enqueueDma (amOwn c) (.remote (Dev.tc n) (amOwn c) (.dma q) hs) (.dma q') ha hb hc) : P F PUnit) (fun _ => iprop(cred (tallyAt (amsC c (dst c s)) () NA) ∗ owing c O)) := by
  subst hn; subst hq; subst hq'
  unfold Prog.lift owing amAny amPts
  iintro ⟨#HR, Hx, ⟨%fd, Hg⟩, ⟨%W, HO⟩, Ht, Ht'⟩
  iapply (Rounds.wp_send_pointsTo 𝒱₀ ER (Rd X Wt) (c : Thread nD τ) none (c' := (dst c s : Thread nD τ)) (src := amOwn c) (dst := amOwn c)
      (q := lf (dst c s)) (fs := amF X Wt) (fd := fd)
      (κ₁ := K (c, some (.inl (2, dst c s)))) (κ₂ := K (dst c s, some (.inl (3, c)))) (r₁ := 0) (r₂ := 0) (d₁ := 0) (d₂ := 0)
      (by rw [duties_x X Wt c 2 (dst c s) (dst_ne c s h1 h2)]; exact Finset.mem_singleton_self _)
      (by rw [duties_x X Wt (dst c s) 3 c (dst_ne c s h1 h2).symm]; exact Finset.mem_singleton_self _)
      () () NA ((View.amount_dma _ _).trans (credit_amOwn c)) (amount_a X Wt c 2 (by decide) _ _ _) (amount_a X Wt (dst c s) 3 (by decide) _ _ _) O rfl (W := W)
      (by rw [payload_ams]; unfold amPts; rw [set_amOwn])
      (by rw [payload_amr, pointsTo_congr (land_a (mV X Wt) c fd)]; unfold amPts; rw [set_amOwn]; exact .rfl)) $$ [Hx Hg HO Ht Ht']
  · isplitr; · iapply (inv_dma X Wt K c (.inl (2, dst c s))); iexact HR
    isplitr; · iapply (inv_dma X Wt K (dst c s) (.inl (3, c))); iexact HR
    isplitl [Hx]; · rw [set_amOwn c]; iexact Hx
    isplitl [Hg]; · rw [set_amOwn]; iexact Hg
    isplitl [HO]; · iexact HO
    isplitl [Ht]; · iexact Ht
    isplitr; · iapply (reached_dma X Wt K c (.inl (2, dst c s))); iexact HR
    isplitl [Ht']; · iexact Ht'
    iapply (reached_dma X Wt K (dst c s) (.inl (3, c))); iexact HR
  iintro ⟨Hc, HO⟩
  rw [wp_ret]; imodintro
  isplitl [Hc]; · iexact Hc
  iexists W; iexact HO

theorem st_sendA (c : Dev nD) {s : ℕ} (h1 : 1 ≤ s) (h2 : s < 16) (O : CellTallies nD τ sig Unit) :
    iprop(recs X Wt K ∗ amPts X Wt c (aBlk c) (lf (dst c s)) ∗ amAny (dst c s) (aBlk c) ∗ owing c (O + tallyAt (amrC (dst c s) c) () NA)
        ∗ dutyTok ER (amsC c (dst c s)) 0 0 ∗ dutyTok ER (amrC (dst c s) c) 0 0)
      ⊢ run c (sendA (F := F) c s) (fun _ => iprop(cred (tallyAt (amsC c (dst c s)) () NA) ∗ owing c O)) :=
  st_sendA_at X Wt K c h1 h2 O _ (amDev_eq c h1 h2) _ _ (dst7_eq c h1 h2) (own8_eq c) _ _ _ _

theorem zero_below (c : Dev nD) (o : Own) : ∀ g u, 0 < (0 : CellTallies nD τ sig Unit) g u → g.1.2 = .tc ∧ lv (dmaC c o) () < lv g () :=
  fun g u h => absurd h (Nat.lt_irrefl 0)

theorem st_waitA (c : Dev nD) {s : ℕ} (h1 : 1 ≤ s) (h2 : s < 16) :
    iprop(recs X Wt K ∗ cred (tallyAt (amrC c (src c s)) () NA) ∗ owing c 0 ∗ atPos ER (amrC c (src c s)) 0 ∅ 0)
      ⊢ run c (waitA (F := F) c s) (fun _ => iprop(owing c 0 ∗ atPos ER (amrC c (src c s)) 1 ∅ 0 ∗ reached ER (amrC c (src c s)) 1
          ∗ amPts X Wt c (aBlk (src c s)) fullShare)) :=
  st_wait X Wt K c (.inl (3, src c s)) _ (src8_eq c h1 h2) 0 NA _ 0 (duties_x X Wt c 3 _ (src_ne c s h1 h2)) (expect_a X Wt c 3 (by decide) _ (src_ne c s h1 h2))
    (payload_amr X Wt c _ 0 0) (zero_below c _) _ _ _ _ (credit_amSrc c s)

/-! ## The waits for what was sent -/

theorem st_waitSent (c : Dev nD) {s : ℕ} (h1 : 1 ≤ s) (h2 : s < 16) :
    iprop(recs X Wt K ∗ owing c 0 ∗ cred (tallyAt (sndC c (dst c s)) () NX) ∗ atPos ER (sndC c (dst c s)) 0 ∅ 0
        ∗ cred (tallyAt (amsC c (dst c s)) () NA) ∗ atPos ER (amsC c (dst c s)) 0 ∅ 0)
      ⊢ run c (waitSent (F := F) c s) (fun _ => iprop(owing c 0 ∗ atPos ER (sndC c (dst c s)) 1 ∅ 0 ∗ atPos ER (amsC c (dst c s)) 1 ∅ 0
          ∗ xsPts X c (xBlk (dst c s)) ∗ amPts X Wt c (aBlk c) (lf (dst c s)))) := by
  unfold waitSent
  rw [run_bind]
  iintro ⟨#HR, HO, Hc, Hat, Hc', Hat'⟩
  iapply (run_use (st_wait X Wt K c (.inl (0, dst c s)) _ (dst4_eq c h1 h2) 0 NX _ 0 (duties_x X Wt c 0 _ (dst_ne c s h1 h2)) (expect_x X Wt c 0 (by decide) _ (dst_ne c s h1 h2))
    (payload_snd X Wt c _ 0 0) (zero_below c _) _ _ _ _ (credit_xsSrc c s))) $$ [HO Hc Hat]
  · isplitr; · iexact HR
    isplitl [Hc]; · iexact Hc
    isplitl [HO] <;> iassumption
  iintro %_ ⟨HO, Hat, -, Hx⟩
  iapply (run_use (st_wait X Wt K c (.inl (2, dst c s)) _ (dst7_eq c h1 h2) 0 NA _ 0 (duties_x X Wt c 2 _ (dst_ne c s h1 h2)) (expect_a X Wt c 2 (by decide) _ (dst_ne c s h1 h2))
    (payload_ams X Wt c _ 0 0) (zero_below c _) _ _ _ _ (credit_amOwn c))) $$ [HO Hc' Hat']
  · isplitr; · iexact HR
    isplitl [Hc']; · iexact Hc'
    isplitl [HO] <;> iassumption
  iintro %_ ⟨HO, Hat', -, Ha⟩
  isplitl [HO]; · iexact HO
  isplitl [Hat]; · iexact Hat
  isplitl [Hat']; · iexact Hat'
  isplitl [Hx] <;> iassumption

end Ops

end Cert.KernelProof

end
-- ==== Proof.Fam.lean ====
/-
  Families over the sixteen devices, counted by how far around the ring a device lies from one of them; buffers held
  block by block.
-/
module

public import proofs.«01_k».proof.Proof.Steps
public import Idealize.ShloMosaic.Lib.Ring
public import Idealize.SL.BI.BigOpNat

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem nothing_sep (P : sProp 𝕄) : iprop(emp ∗ P) = P := equiv_iff.mp emp_sep
theorem run_congr {A B : ℕ → sProp 𝕄} {a b : ℕ} (h : ∀ g, a ≤ g → g < b → A g = B g) : bigSep (Finset.Ico a b) A = bigSep (Finset.Ico a b) B :=
  bigSep_congr fun g hg => h g (Finset.mem_Ico.mp hg).1 (Finset.mem_Ico.mp hg).2

/-! ## Devices by distance -/

theorem dst_bij : ∀ c : Dev nD, Function.Bijective (fun t : Fin 16 => (dst c t.val : Fin 16)) := by
  intro c
  refine Finite.injective_iff_bijective.1 fun a b h => ?_
  have h' : (c.val + a.val) % 16 = (c.val + b.val) % 16 := congrArg Fin.val h
  have hc : c.val < 16 := c.isLt
  apply Fin.ext; omega
theorem src_bij : ∀ c : Dev nD, Function.Bijective (fun t : Fin 16 => (src c t.val : Fin 16)) := by
  intro c
  refine Finite.injective_iff_bijective.1 fun a b h => ?_
  have h' : (c.val + (16 - a.val)) % 16 = (c.val + (16 - b.val)) % 16 := congrArg Fin.val h
  have hc : c.val < 16 := c.isLt
  apply Fin.ext; omega

theorem dst_zero (c : Dev nD) : dst c 0 = c := by revert c; decide

/-- A family over the devices is its member at `c` and the members at the fifteen others, by distance onwards; -/
theorem fam_dst (c : Dev nD) (Φ : Fin 16 → sProp 𝕄) :
    bigSep Finset.univ Φ = iprop(Φ c ∗ bigSep (Finset.Ico 1 16) fun t => Φ (dst c t)) := by
  rw [bigSep_univ_equiv (Equiv.ofBijective _ (dst_bij c)), Ring.bigSep_fin_eq_range 16 _ (fun t => Φ (dst c t)) (fun t h => rfl), Finset.range_eq_Ico,
    bigSep_Ico_succ_bot (by decide), dst_zero]
/-- and by distance backwards; -/
theorem fam_src (c : Dev nD) (Φ : Fin 16 → sProp 𝕄) :
    bigSep Finset.univ Φ = iprop(Φ c ∗ bigSep (Finset.Ico 1 16) fun t => Φ (src c t)) := by
  rw [bigSep_univ_equiv (Equiv.ofBijective _ (src_bij c)), Ring.bigSep_fin_eq_range 16 _ (fun t => Φ (src c t)) (fun t h => rfl), Finset.range_eq_Ico,
    bigSep_Ico_succ_bot (by decide), src_zero]
/-- backwards from no distance at all. -/
theorem fam_src0 (c : Dev nD) (Φ : Fin 16 → sProp 𝕄) :
    bigSep Finset.univ Φ = bigSep (Finset.Ico 0 16) fun t => Φ (src c t) := by
  rw [bigSep_univ_equiv (Equiv.ofBijective _ (src_bij c)), Ring.bigSep_fin_eq_range 16 _ (fun t => Φ (src c t)) (fun t h => rfl), Finset.range_eq_Ico]

/-- A family over the other devices, by distance onwards. -/
theorem others_dst (c : Dev nD) (Φ : Fin 16 → sProp 𝕄) :
    bigSep (Finset.univ.erase (c : Fin 16)) Φ = bigSep (Finset.Ico 1 16) fun t => Φ (dst c t) := by
  have h := fam_dst c (fun j : Fin 16 => if j = c then (iprop(emp) : sProp 𝕄) else Φ j)
  have h' := bigSep_univ_split (i := (c : Fin 16)) (Φ := fun j : Fin 16 => if j = c then (iprop(emp) : sProp 𝕄) else Φ j)
  rw [h] at h'
  simp only [if_pos, nothing_sep] at h'
  rw [run_congr (B := fun t => Φ (dst c t)) fun t h1 h2 => if_neg (dst_ne c t h1 h2)] at h'
  rw [h', bigSep_congr fun j hj => (if_neg (Finset.ne_of_mem_erase hj))]
  exact (nothing_sep _).symm
/-- A family over the other devices, by distance backwards. -/
theorem others_src (c : Dev nD) (Φ : Fin 16 → sProp 𝕄) :
    bigSep (Finset.univ.erase (c : Fin 16)) Φ = bigSep (Finset.Ico 1 16) fun t => Φ (src c t) := by
  have h := fam_src c (fun j : Fin 16 => if j = c then (iprop(emp) : sProp 𝕄) else Φ j)
  have h' := bigSep_univ_split (i := (c : Fin 16)) (Φ := fun j : Fin 16 => if j = c then (iprop(emp) : sProp 𝕄) else Φ j)
  rw [h] at h'
  simp only [if_pos, nothing_sep] at h'
  rw [run_congr (B := fun t => Φ (src c t)) fun t h1 h2 => if_neg (src_ne c t h1 h2)] at h'
  rw [h', bigSep_congr fun j hj => (if_neg (Finset.ne_of_mem_erase hj))]
  exact (nothing_sep _).symm

/-! ## Buffers by blocks -/

theorem xBlk_all : Finset.univ.biUnion xBlk = Finset.univ := by ext i; simpa using xBlk_cover i
theorem wBlk_all : Finset.univ.biUnion wBlk = Finset.univ := by ext i; simpa using wBlk_cover i
theorem gBlk_all : Finset.univ.biUnion gBlk = Finset.univ := by ext i; simpa using gBlk_cover i
theorem aBlk_all : Finset.univ.biUnion aBlk = Finset.univ := by ext i; simpa using aBlk_cover i
theorem bBlk_all : Finset.univ.biUnion bBlk = Finset.univ := by ext i; simpa using bBlk_cover i

section Blocks

variable (X : Dev nD → Vec F S4096x256 .f32) (Wt : Dev nD → Vec F S4096x8192 .f32)

theorem any_of (ℓ : Loc nD τ sig) (I : Finset (Idx ℓ)) (f : Buf (Elt F) ℓ) : (ℓ ↦[I]{fullShare} f : sProp 𝕄) ⊢ iprop(∃ f, ℓ ↦[I]{fullShare} f) := by
  iintro H; iexists f; iexact H

theorem xs_blocks (c : Dev nD) : xsPts (F := F) X c Finset.univ = bigSep Finset.univ fun j => xsPts X c (xBlk j) :=
  Ring.pointsTo_blocks (ℓ := (c : Thread nD τ).loc cc0_scratch0) xBlk xBlk_disj xBlk_all (xsF X c)
theorem w_blocks (c : Dev nD) : wPts (F := F) Wt c Finset.univ = bigSep Finset.univ fun j => wPts Wt c (wBlk j) :=
  Ring.pointsTo_blocks (ℓ := (c : Thread nD τ).loc main_arg1) wBlk wBlk_disj wBlk_all (Wt c)
theorem am_blocks (c : Dev nD) (q : PosShare TreeShare) : amPts (F := F) X Wt c Finset.univ q = bigSep Finset.univ fun j => amPts X Wt c (aBlk j) q :=
  Ring.pointsTo_blocks (ℓ := (c : Thread nD τ).loc cc0_scratch3) aBlk aBlk_disj aBlk_all (amF X Wt)

theorem xg_split (c : Dev nD) : xgAny (F := F) c Finset.univ ⊢ bigSep Finset.univ fun j => xgAny c (gBlk j) := by
  unfold xgAny; iintro ⟨%f, H⟩
  have h : (((c : Thread nD τ).loc cc0_scratch1) ↦{fullShare} f : sProp 𝕄) ⊢ bigSep Finset.univ fun j => iprop(∃ f, ((c : Thread nD τ).loc cc0_scratch1) ↦[gBlk j]{fullShare} f) := by
    rw [Ring.pointsTo_blocks (ℓ := (c : Thread nD τ).loc cc0_scratch1) gBlk gBlk_disj gBlk_all f]
    exact bigSep_mono fun j _ => any_of _ _ f
  iapply h; iexact H
theorem am_split (c : Dev nD) : amAny (F := F) c Finset.univ ⊢ bigSep Finset.univ fun j => amAny c (aBlk j) := by
  unfold amAny; iintro ⟨%f, H⟩
  have h : (((c : Thread nD τ).loc cc0_scratch3) ↦{fullShare} f : sProp 𝕄) ⊢ bigSep Finset.univ fun j => iprop(∃ f, ((c : Thread nD τ).loc cc0_scratch3) ↦[aBlk j]{fullShare} f) := by
    rw [Ring.pointsTo_blocks (ℓ := (c : Thread nD τ).loc cc0_scratch3) aBlk aBlk_disj aBlk_all f]
    exact bigSep_mono fun j _ => any_of _ _ f
  iapply h; iexact H
theorem wb_split (c : Dev nD) (f : Vec F S3x256x8192 .f32) : (((c : Thread nD τ).loc cc0_scratch2) ↦{fullShare} f : sProp 𝕄) ⊢ bigSep Finset.univ fun i => wbAny c i := by
  unfold wbAny
  rw [Ring.pointsTo_blocks (ℓ := (c : Thread nD τ).loc cc0_scratch2) bBlk bBlk_disj bBlk_all f]
  exact bigSep_mono fun j _ => any_of ((c : Thread nD τ).loc cc0_scratch2) (bBlk j) f

theorem xg_join (c : Dev nD) : (bigSep Finset.univ fun j => xgAny (F := F) c (gBlk j)) ⊢ xgAny c Finset.univ :=
  Ring.pointsTo_blocks_join_exists (ℓ := (c : Thread nD τ).loc cc0_scratch1) gBlk gBlk_disj gBlk_all (fun _ => FloatOps.ofBits _ 0)
theorem wb_join (c : Dev nD) : (bigSep Finset.univ fun i => wbAny (F := F) c i) ⊢ iprop(∃ f, ((c : Thread nD τ).loc cc0_scratch2) ↦{fullShare} f) :=
  Ring.pointsTo_blocks_join_exists (ℓ := (c : Thread nD τ).loc cc0_scratch2) bBlk bBlk_disj bBlk_all (fun _ => FloatOps.ofBits _ 0)

theorem xg_forget (c : Dev nD) (I) : xgPts (F := F) X c I ⊢ xgAny c I := by unfold xgPts xgAny; iintro H; iexists _; iexact H
theorem am_forget (c : Dev nD) (I) : amPts (F := F) X Wt c I fullShare ⊢ amAny c I := by unfold amPts amAny; iintro H; iexists _; iexact H
theorem wb_forget (c : Dev nD) (s : ℕ) : wbPts (F := F) Wt c s ⊢ wbAny c (slot s) := by unfold wbPts wbAny; iintro H; iexists _; iexact H

/-- A block of the maxima held in full is held in sixteen shares, one of them `c`'s own. -/
theorem am_leaves (c c' : Dev nD) (I) : amPts (F := F) X Wt c' I fullShare
    = iprop(amPts X Wt c' I (lf c) ∗ bigSep (Finset.Ico 1 16) fun t => amPts X Wt c' I (lf (dst c t))) := by
  rw [← fam_dst c (fun j => amPts X Wt c' I (lf j))]
  exact ShareLeaves.pointsTo_leaves (ℓ := (c' : Thread nD τ).loc cc0_scratch3) I (amF X Wt) 4 fullShare

end Blocks

end Cert.KernelProof

end
-- ==== Proof.Mem.lean ====
/-
  The body's loads and stores, and the arithmetic steps made of them.
-/
module

public import proofs.«01_k».proof.Proof.Fam

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem setOn_le {sp : Space} {s : Shape} {e : EltTy} {m : Memref sig .tc sp s e} {r : Rect s} {S : Finset m.view.ty.Idx}
    (h : (m.access r).set ⊆ S) : m.view.setOn r.toLoadRect.set ⊆ S := by rwa [View.set_slice] at h

/-- The output block holds `f`. -/
def oPts (c : Dev nD) (f : Vec F S256x8192 .f32) : sProp 𝕄 := ((c : Thread nD τ).loc cc0_stg1_0) ↦{fullShare} f
/-- The staged block of `x` holds `f`. -/
def xPts (c : Dev nD) (f : Vec F S4096x256 .f32) : sProp 𝕄 := ((c : Thread nD τ).loc cc0_stg0_0) ↦{fullShare} f

theorem st_loadO (c : Dev nD) (f : Vec F S256x8192 .f32) : oPts c f ⊢ run c (loadO (F := F)) (fun v => iprop(⌜v = f⌝ ∗ oPts c f)) := by
  unfold loadO Prog.lift oPts
  iintro H
  iapply (wp_load 𝒱₀ (c : Thread nD τ) none Set.univ (m := oM) (Finset.subset_univ _)) $$ H
  iintro H
  rw [wp_ret]; imodintro
  isplitr; · ipureintro; exact load_o f
  iexact H

theorem st_storeO (c : Dev nD) (f v : Vec F S256x8192 .f32) : oPts c f ⊢ run c (storeO v) (fun _ => oPts c v) := by
  unfold storeO
  rw [run_bind]
  iintro H
  iapply (run_use (st_loadO c f)) $$ H
  iintro %_ ⟨-, H⟩
  unfold Prog.lift oPts
  iapply (wp_store 𝒱₀ (c : Thread nD τ) none Set.univ (m := oM) (r := oRect) (Mk := Finset.univ) (Finset.subset_univ _)) $$ H
  iintro H
  rw [wp_ret]; imodintro
  rw [write_o f v]; iexact H

section Vals

variable (X : Dev nD → Vec F S4096x256 .f32) (Wt : Dev nD → Vec F S4096x8192 .f32)

theorem st_loadW (c : Dev nD) (s : ℕ) : wbPts Wt c s ⊢ run c (loadW (F := F) s) (fun v => iprop(⌜v = wV Wt c s⌝ ∗ wbPts Wt c s)) := by
  unfold loadW Prog.lift wbPts
  iintro H
  iapply (wp_load 𝒱₀ (c : Thread nD τ) none Set.univ (m := wbM) (S := bBlk (slot s)) (f := wbF Wt c s) (setOn_le (View.set_slice_whole _ _).subset)) $$ H
  iintro H
  rw [wp_ret]; imodintro
  isplitr; · ipureintro; exact load_w Wt c s
  iexact H

theorem st_castX (c : Dev nD) (f : Vec F S4096x256 .bf16) :
    iprop(xPts c (X c) ∗ ((c : Thread nD τ).loc cc0_scratch0) ↦{fullShare} f) ⊢ run c (castX (F := F)) (fun _ => iprop(xPts c (X c) ∗ xsPts X c Finset.univ)) := by
  unfold castX
  rw [run_bind]
  unfold Prog.lift xPts
  iintro ⟨Hx, Hs⟩
  iapply (wp_load 𝒱₀ (c : Thread nD τ) none Set.univ (m := xM) (Finset.subset_univ _)) $$ Hx
  iintro Hx
  rw [wp_ret]; imodintro
  rw [load_x, run_bind]
  iapply (wp_load 𝒱₀ (c : Thread nD τ) none Set.univ (m := xsM) (Finset.subset_univ _)) $$ Hs
  iintro Hs
  rw [wp_ret]; imodintro
  iapply (wp_store 𝒱₀ (c : Thread nD τ) none Set.univ (m := xsM) (r := xRect) (Mk := Finset.univ) (Finset.subset_univ _)) $$ Hs
  iintro Hs
  rw [wp_ret]; imodintro
  isplitl [Hx]; · iexact Hx
  rw [write_xs]; unfold xsPts xsF; iexact Hs

theorem st_first (c : Dev nD) (f : Vec F S256x8192 .f32) :
    iprop(xsPts X c (xBlk c) ∗ wbPts Wt c 0 ∗ oPts c f) ⊢ run c (first (F := F) c) (fun _ => iprop(xsPts X c (xBlk c) ∗ wbPts Wt c 0 ∗ oPts c (acc X Wt c 0))) := by
  unfold first
  rw [run_bind]
  unfold Prog.lift xsPts
  iintro ⟨Hx, Hw, Ho⟩
  iapply (wp_load 𝒱₀ (c : Thread nD τ) none Set.univ (m := xsM) (r := (Rect.unit (s := S4096x256) (k0_off6 c) S256x256.size (k0_off6_inb c)).toLoadRect) (S := xBlk c) (f := xsF X c)
    (setOn_le ((View.set_slice_whole _ _).trans (set_off_congr (off6_all c) _ _)).subset)) $$ Hx
  iintro Hx
  rw [wp_ret]; imodintro
  rw [load_a, run_bind]
  iapply (run_use (st_loadW Wt c 0)) $$ Hw
  iintro %v ⟨%hv, Hw⟩
  subst hv
  iapply (run_use (st_storeO c f _)) $$ Ho
  iintro %_ Ho
  isplitl [Hx]; · iexact Hx
  isplitl [Hw]; · iexact Hw
  iexact Ho

theorem st_accum (K : Dev nD × Option Own → ℕ) (c : Dev nD) {s : ℕ} (h1 : 1 ≤ s) (h2 : s < 16) :
    iprop(recs X Wt K ∗ cred (tallyAt (rcvC c (src c s)) () NX) ∗ owing c (OA c 1) ∗ atPos ER (rcvC c (src c s)) 0 ∅ 0 ∗ wbPts Wt c s ∗ oPts c (acc X Wt c (s - 1)))
      ⊢ run c (accum (F := F) c s) (fun _ => iprop(owing c (OA c 1) ∗ atPos ER (rcvC c (src c s)) 1 ∅ 0 ∗ xgPts X c (gBlk (src c s)) ∗ wbPts Wt c s ∗ oPts c (acc X Wt c s))) := by
  obtain ⟨t, rfl⟩ : ∃ t, s = t + 1 := ⟨s - 1, by omega⟩
  rw [Nat.add_sub_cancel]
  unfold accum
  rw [run_bind]
  iintro ⟨#HR, Hc, HO, Hat, Hw, Ho⟩
  iapply (run_use (st_waitX X Wt K c h1 h2)) $$ [Hc HO Hat]
  · isplitr; · iexact HR
    isplitl [Hc]; · iexact Hc
    isplitl [HO] <;> iassumption
  iintro %_ ⟨HO, Hat, -, Hg⟩
  rw [run_bind]
  unfold Prog.lift xgPts
  iapply (wp_load 𝒱₀ (c : Thread nD τ) none Set.univ (m := xgM) (r := (Rect.unit (s := S16x256x256) (k0_off9 c (w15 (t + 1))) S1x256x256.size (k0_off9_inb c (ix15 (t + 1)))).toLoadRect) (S := gBlk (src c (t + 1))) (f := xgF X c)
    (setOn_le ((View.set_slice_whole _ _).trans (set_off_congr (off9_at c h1 h2) _ _)).subset)) $$ Hg
  iintro Hg
  rw [wp_ret]; imodintro
  rw [load_g X c h1 h2, run_bind]
  iapply (run_use (st_loadW Wt c (t + 1))) $$ Hw
  iintro %v ⟨%hv, Hw⟩
  subst hv
  rw [run_bind]
  iapply (run_use (st_loadO c _)) $$ Ho
  iintro %v ⟨%hv, Ho⟩
  subst hv
  iapply (run_use (st_storeO c _ _)) $$ Ho
  iintro %_ Ho
  isplitl [HO]; · iexact HO
  isplitl [Hat]; · iexact Hat
  isplitl [Hg]; · iexact Hg
  isplitl [Hw]; · iexact Hw
  iexact Ho

theorem st_storeA (c : Dev nD) (f : Vec F S16x8x128 .f32) (M : Dev nD → Vec F S1x8x128 .f32) :
    (((c : Thread nD τ).loc cc0_scratch3) ↦[aBlk c]{fullShare} f) ⊢ run c (do
        let _ ← Prog.lift (.load amM (amRect c).toLoadRect (View.loadsAt_vmem h_S1x8x128))
        Prog.lift (.store amM (amRect c) (M c) Finset.univ (View.stores_vmem_bits_univ h_S1x8x128 rfl) (.inl rfl)) : P F PUnit)
      (fun _ => ((c : Thread nD τ).loc cc0_scratch3) ↦[aBlk c]{fullShare} amOf M) := by
  rw [run_bind]
  unfold Prog.lift
  iintro Ha
  iapply (wp_load 𝒱₀ (c : Thread nD τ) none Set.univ (m := amM) (r := (amRect c).toLoadRect) (S := aBlk c) (f := f)
    (setOn_le ((View.set_slice_whole _ _).trans (set_off_congr (off10_all c) _ _)).subset)) $$ Ha
  iintro Ha
  rw [wp_ret]; imodintro
  iapply (wp_store 𝒱₀ (c : Thread nD τ) none Set.univ (m := amM) (r := amRect c) (Mk := Finset.univ) (S := aBlk c)
    (((View.set_slice_whole _ _).trans (set_off_congr (off10_all c) _ _)).subset)) $$ Ha
  iintro Ha
  rw [wp_ret]; imodintro
  iapply (Entails.of_eq (pointsTo_congr (ℓ := (c : Thread nD τ).loc cc0_scratch3) (q := fullShare) (I := aBlk c) (store_a M c f))); iexact Ha

theorem st_relu (c : Dev nD) :
    iprop(amAny c (aBlk c) ∗ oPts c (acc X Wt c 15)) ⊢ run c (relu (F := F) c) (fun _ => iprop(amPts X Wt c (aBlk c) fullShare ∗ oPts c (yV X Wt c))) := by
  unfold relu
  rw [run_bind]
  unfold amAny
  iintro ⟨⟨%f, Ha⟩, Ho⟩
  iapply (run_use (st_loadO c _)) $$ Ho
  iintro %v ⟨%hv, Ho⟩
  subst hv
  rw [run_bind]
  iapply (run_use (st_storeO c _ _)) $$ Ho
  iintro %_ Ho
  rw [show k0_pay23 (acc X Wt c 15) = mV X Wt c from rfl]
  iapply (run_use (st_storeA c f (mV X Wt))) $$ Ha
  iintro %_ Ha
  isplitl [Ha]; · unfold amPts amF; iexact Ha
  iexact Ho

theorem st_quant (c : Dev nD) :
    iprop(amPts X Wt c Finset.univ (lf c) ∗ oPts c (yV X Wt c)) ⊢ run c (quant (F := F)) (fun _ => iprop(amPts X Wt c Finset.univ (lf c) ∗ oPts c (zV X Wt c))) := by
  unfold quant
  rw [run_bind]
  unfold Prog.lift amPts
  iintro ⟨Ha, Ho⟩
  iapply (wp_load 𝒱₀ (c : Thread nD τ) none Set.univ (m := amM) (Finset.subset_univ _)) $$ Ha
  iintro Ha
  rw [wp_ret]; imodintro
  rw [load_am, run_bind]
  iapply (run_use (st_loadO c _)) $$ Ho
  iintro %v ⟨%hv, Ho⟩
  subst hv
  iapply (run_use (st_storeO c _ _)) $$ Ho
  iintro %_ Ho
  isplitl [Ha]; · iexact Ha
  iexact Ho

end Vals

end Cert.KernelProof

end
-- ==== Proof.Loops.lean ====
/-
  The body's loops.
-/
module

public import proofs.«01_k».proof.Proof.Mem

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Numbered steps of which each takes its own part `A s` and leaves `B s`, and carries `I s` to `I (s + 1)`. -/
theorem run_fam {c : Dev nD} {R : sProp 𝕄} [BI.Persistent R] (f : ℕ → P F PUnit) (I A B : ℕ → sProp 𝕄) (n a : ℕ)
    (h : ∀ s, a ≤ s → s < a + n → iprop(R ∗ I s ∗ A s) ⊢ run c (f s) (fun _ => iprop(I (s + 1) ∗ B s))) :
    iprop(R ∗ I a ∗ bigSep (Finset.Ico a (a + n)) A) ⊢ run c (steps f n a) (fun _ => iprop(I (a + n) ∗ bigSep (Finset.Ico a (a + n)) B)) := by
  have key := run_steps (c := c) f (fun s => iprop(R ∗ I s ∗ bigSep (Finset.Ico s (a + n)) A ∗ bigSep (Finset.Ico a s) B)) n a fun s h1 h2 => by
    rw [bigSep_Ico_succ_bot h2 A, bigSep_Ico_succ_top h1 B]
    iintro ⟨#HR, HI, ⟨HA, HAs⟩, HBs⟩
    iapply (run_use (h s h1 h2)) $$ [HI HA]
    · isplitr; · iexact HR
      isplitl [HI] <;> iassumption
    iintro %_ ⟨HI, HB⟩
    isplitr; · iexact HR
    isplitl [HI]; · iexact HI
    isplitl [HAs]; · iexact HAs
    isplitl [HB] <;> iassumption
  have e : bigSep (Finset.Ico a a) B = (iprop(emp) : sProp 𝕄) := by rw [Finset.Ico_self, bigSep_empty]; rfl
  iintro ⟨#HR, HI, HA⟩
  iapply (run_use key) $$ [HI HA]
  · isplitr; · iexact HR
    isplitl [HI]; · iexact HI
    isplitl [HA]; · iexact HA
    rw [e]; itrivial
  iintro %_ ⟨-, HI, -, HB⟩
  isplitl [HI] <;> iassumption

section Loops

variable (X : Dev nD → Vec F S4096x256 .f32) (Wt : Dev nD → Vec F S4096x8192 .f32) (K : Dev nD × Option Own → ℕ)

/-! ## The loops of one kind of operation -/

theorem loop_signal (c : Dev nD) :
    iprop(recs X Wt K ∗ owing c (O₀ c) ∗ bigSep (Finset.Ico 1 16) fun t => iprop(dutyTok ER (barC (dst c t)) 0 c ∗ xgAny c (gBlk (dst c t)) ∗ amAny c (aBlk (dst c t))))
      ⊢ run c (steps (signalAt (F := F) c) 15 1) (fun _ => owing c (OA c 1 + OX c 1)) := by
  have key := run_fam (c := c) (R := recs X Wt K) (signalAt (F := F) c) (fun s => owing c (OA c 1 + OX c 1 + OB c s))
    (fun t => iprop(dutyTok ER (barC (dst c t)) 0 c ∗ xgAny c (gBlk (dst c t)) ∗ amAny c (aBlk (dst c t)))) (fun _ => iprop(emp)) 15 1 fun s h1 h2 => by
      rw [OB_peel c h2, ← add_assoc]
      iintro ⟨#HR, HO, Ht, Hx, Ha⟩
      iapply (run_use (st_signal X Wt K c h1 h2 _)) $$ [HO Ht Hx Ha]
      · isplitr; · iexact HR
        isplitl [HO]; · iexact HO
        isplitl [Ht]; · iexact Ht
        isplitl [Hx] <;> iassumption
      iintro %_ HO
      isplitl [HO]; · iexact HO
      itrivial
  refine (key.trans (wp_mono _ _ _ fun _ => ?_))
  rw [OB_end c, add_zero]
  iintro ⟨HO, -⟩; iexact HO

theorem loop_sendX (c : Dev nD) :
    iprop(recs X Wt K ∗ owing c (OA c 1 + OX c 1) ∗ bigSep (Finset.Ico 1 16) fun t => iprop(xsPts X c (xBlk (dst c t)) ∗ xgAny (dst c t) (gBlk c)
        ∗ dutyTok ER (sndC c (dst c t)) 0 0 ∗ dutyTok ER (rcvC (dst c t) c) 0 0))
      ⊢ run c (steps (sendX (F := F) c) 15 1) (fun _ => iprop(owing c (OA c 1) ∗ bigSep (Finset.Ico 1 16) fun t => cred (tallyAt (sndC c (dst c t)) () NX))) := by
  have key := run_fam (c := c) (R := recs X Wt K) (sendX (F := F) c) (fun s => owing c (OA c 1 + OX c s))
    (fun t => iprop(xsPts X c (xBlk (dst c t)) ∗ xgAny (dst c t) (gBlk c) ∗ dutyTok ER (sndC c (dst c t)) 0 0 ∗ dutyTok ER (rcvC (dst c t) c) 0 0))
    (fun t => cred (tallyAt (sndC c (dst c t)) () NX)) 15 1 fun s h1 h2 => by
      rw [OX_peel c h2, ← add_assoc]
      iintro ⟨#HR, HO, Hx, Hg, Ht, Ht'⟩
      iapply (run_use (st_sendX X Wt K c h1 h2 _)) $$ [HO Hx Hg Ht Ht']
      · isplitr; · iexact HR
        isplitl [Hx]; · iexact Hx
        isplitl [Hg]; · iexact Hg
        isplitl [HO]; · iexact HO
        isplitl [Ht] <;> iassumption
      iintro %_ ⟨Hc, HO⟩
      isplitl [HO] <;> iassumption
  refine (key.trans (wp_mono _ _ _ fun _ => ?_))
  rw [OX_end c, add_zero]

theorem loop_sendA (c : Dev nD) :
    iprop(recs X Wt K ∗ owing c (OA c 1) ∗ bigSep (Finset.Ico 1 16) fun t => iprop(amPts X Wt c (aBlk c) (lf (dst c t)) ∗ amAny (dst c t) (aBlk c)
        ∗ dutyTok ER (amsC c (dst c t)) 0 0 ∗ dutyTok ER (amrC (dst c t) c) 0 0))
      ⊢ run c (steps (sendA (F := F) c) 15 1) (fun _ => iprop(owing c 0 ∗ bigSep (Finset.Ico 1 16) fun t => cred (tallyAt (amsC c (dst c t)) () NA))) := by
  have key := run_fam (c := c) (R := recs X Wt K) (sendA (F := F) c) (fun s => owing c (OA c s))
    (fun t => iprop(amPts X Wt c (aBlk c) (lf (dst c t)) ∗ amAny (dst c t) (aBlk c) ∗ dutyTok ER (amsC c (dst c t)) 0 0 ∗ dutyTok ER (amrC (dst c t) c) 0 0))
    (fun t => cred (tallyAt (amsC c (dst c t)) () NA)) 15 1 fun s h1 h2 => by
      rw [OA_peel c h2]
      iintro ⟨#HR, HO, Hx, Hg, Ht, Ht'⟩
      iapply (run_use (st_sendA X Wt K c h1 h2 _)) $$ [HO Hx Hg Ht Ht']
      · isplitr; · iexact HR
        isplitl [Hx]; · iexact Hx
        isplitl [Hg]; · iexact Hg
        isplitl [HO]; · iexact HO
        isplitl [Ht] <;> iassumption
      iintro %_ ⟨Hc, HO⟩
      isplitl [HO] <;> iassumption
  refine (key.trans (wp_mono _ _ _ fun _ => ?_))
  rw [OA_end c]

theorem loop_waitA (c : Dev nD) :
    iprop(recs X Wt K ∗ owing c 0 ∗ bigSep (Finset.Ico 1 16) fun t => iprop(cred (tallyAt (amrC c (src c t)) () NA) ∗ atPos ER (amrC c (src c t)) 0 ∅ 0))
      ⊢ run c (steps (waitA (F := F) c) 15 1) (fun _ => iprop(owing c 0 ∗ bigSep (Finset.Ico 1 16) fun t => iprop(atPos ER (amrC c (src c t)) 1 ∅ 0 ∗ amPts X Wt c (aBlk (src c t)) fullShare))) :=
  run_fam (c := c) (R := recs X Wt K) (waitA (F := F) c) (fun s => owing c 0)
    (fun t => iprop(cred (tallyAt (amrC c (src c t)) () NA) ∗ atPos ER (amrC c (src c t)) 0 ∅ 0))
    (fun t => iprop(atPos ER (amrC c (src c t)) 1 ∅ 0 ∗ amPts X Wt c (aBlk (src c t)) fullShare)) 15 1 fun s h1 h2 => by
      iintro ⟨#HR, HO, Hc, Hat⟩
      iapply (run_use (st_waitA X Wt K c h1 h2)) $$ [HO Hc Hat]
      · isplitr; · iexact HR
        isplitl [Hc]; · iexact Hc
        isplitl [HO] <;> iassumption
      iintro %_ ⟨HO, Hat, -, Ha⟩
      isplitl [HO]; · iexact HO
      isplitl [Hat] <;> iassumption

theorem loop_waitSent (c : Dev nD) :
    iprop(recs X Wt K ∗ owing c 0 ∗ bigSep (Finset.Ico 1 16) fun t => iprop(cred (tallyAt (sndC c (dst c t)) () NX) ∗ atPos ER (sndC c (dst c t)) 0 ∅ 0
        ∗ cred (tallyAt (amsC c (dst c t)) () NA) ∗ atPos ER (amsC c (dst c t)) 0 ∅ 0))
      ⊢ run c (steps (waitSent (F := F) c) 15 1) (fun _ => iprop(owing c 0 ∗ bigSep (Finset.Ico 1 16) fun t => iprop(atPos ER (sndC c (dst c t)) 1 ∅ 0 ∗ atPos ER (amsC c (dst c t)) 1 ∅ 0
          ∗ xsPts X c (xBlk (dst c t)) ∗ amPts X Wt c (aBlk c) (lf (dst c t))))) :=
  run_fam (c := c) (R := recs X Wt K) (waitSent (F := F) c) (fun s => owing c 0)
    (fun t => iprop(cred (tallyAt (sndC c (dst c t)) () NX) ∗ atPos ER (sndC c (dst c t)) 0 ∅ 0 ∗ cred (tallyAt (amsC c (dst c t)) () NA) ∗ atPos ER (amsC c (dst c t)) 0 ∅ 0))
    (fun t => iprop(atPos ER (sndC c (dst c t)) 1 ∅ 0 ∗ atPos ER (amsC c (dst c t)) 1 ∅ 0 ∗ xsPts X c (xBlk (dst c t)) ∗ amPts X Wt c (aBlk c) (lf (dst c t)))) 15 1 fun s h1 h2 => by
      iintro ⟨#HR, HO, H⟩
      iapply (run_use (st_waitSent X Wt K c h1 h2)) $$ [HO H]
      · isplitr; · iexact HR
        isplitl [HO] <;> iassumption
      iintro %_ ⟨HO, H⟩
      isplitl [HO] <;> iassumption

/-! ## The weights' slots -/

/-- The weights' slots before the wait for copy `s`: copies before `n` are started, the slots of the copies `n` to `e`
    are free; each slot's cell stands at its next copy's round; the rows of the copies started lie with the copies,
    those of the copies waited for and of those to come with the device. -/
def WSt (c : Dev nD) (s n e : ℕ) : sProp 𝕄 :=
  iprop((bigSep (Finset.Ico n e) fun t => wbAny c (slot t))
    ∗ (bigSep (Finset.Ico s (s + 3)) fun t => iprop(atPos ER (wgtC c (slot t)) (t / 3) ∅ 0 ∗ reached ER (wgtC c (slot t)) (t / 3)))
    ∗ (bigSep (Finset.Ico s n) fun t => cred (tallyAt (wgtC c (slot t)) () NW))
    ∗ (bigSep (Finset.Ico n 16) fun t => iprop(dutyTok ER (wgtC c (slot t)) (t / 3) 0 ∗ wPts Wt c (wBlk (src c t))))
    ∗ (bigSep (Finset.Ico 0 s) fun t => wPts Wt c (wBlk (src c t))))

theorem take_out {S : Finset ℕ} {i : ℕ} (hi : i ∈ S) (Φ : ℕ → sProp 𝕄) : bigSep S Φ = iprop(Φ i ∗ bigSep (S.erase i) Φ) := bigSep_erase hi

theorem slot_next (s : ℕ) : slot (s + 3) = slot s := Fin.ext (Nat.add_mod_right s 3)

theorem wst_copy (c : Dev nD) {s n e : ℕ} (hn : n < 16) (h1 : s ≤ n) (h2 : n < s + 3) (he : n < e) :
    iprop(recs X Wt K ∗ WSt Wt c s n e) ⊢ run c (copyW (F := F) c n) (fun _ => WSt Wt c s (n + 1) e) := by
  unfold WSt
  rw [bigSep_Ico_succ_bot he, bigSep_Ico_succ_bot hn, bigSep_Ico_succ_top h1,
    take_out (Finset.mem_Ico.2 ⟨h1, h2⟩) (fun t => iprop(atPos ER (wgtC c (slot t)) (t / 3) ∅ 0 ∗ reached ER (wgtC c (slot t)) (t / 3)))]
  iintro ⟨#HR, ⟨Hb, Hbs⟩, ⟨⟨Hat, #Hr⟩, Hats⟩, Hcs, ⟨⟨Ht, Hw⟩, Hts⟩, Hws⟩
  iapply (run_use (st_copyW X Wt K c hn)) $$ [Hb Ht Hw]
  · isplitr; · iexact HR
    isplitl [Hw]; · iexact Hw
    isplitl [Hb]; · iexact Hb
    isplitl [Ht]; · iexact Ht
    iexact Hr
  iintro %_ Hc
  isplitl [Hbs]; · iexact Hbs
  isplitl [Hat Hats]
  · isplitl [Hat]
    · isplitl [Hat]; · iexact Hat
      iexact Hr
    iexact Hats
  isplitl [Hc Hcs]
  · isplitl [Hc] <;> iassumption
  isplitl [Hts] <;> iassumption

theorem wst_wait (c : Dev nD) {s n e : ℕ} (hs : s < 16) (h : s < n) :
    iprop(recs X Wt K ∗ owing c (OA c 1) ∗ WSt Wt c s n e) ⊢ run c (waitW (F := F) c s) (fun _ => iprop(owing c (OA c 1) ∗ wbPts Wt c s ∗ WSt Wt c (s + 1) n e)) := by
  unfold WSt
  rw [bigSep_Ico_succ_bot h, bigSep_Ico_succ_bot (show s < s + 3 by omega), show s + 1 + 3 = (s + 3) + 1 by omega,
    bigSep_Ico_succ_top (show s + 1 ≤ s + 3 by omega), bigSep_Ico_succ_top (Nat.zero_le s), slot_next, show (s + 3) / 3 = s / 3 + 1 by omega]
  iintro ⟨#HR, HO, Hbs, ⟨⟨Hat, -⟩, Hats⟩, ⟨Hc, Hcs⟩, Hts, Hws⟩
  iapply (run_use (st_waitW X Wt K c hs)) $$ [HO Hat Hc]
  · isplitr; · iexact HR
    isplitl [Hc]; · iexact Hc
    isplitl [HO] <;> iassumption
  iintro %_ ⟨HO, Hat, #Hr, Hb, Hw⟩
  isplitl [HO]; · iexact HO
  isplitl [Hb]; · iexact Hb
  isplitl [Hbs]; · iexact Hbs
  isplitl [Hat Hats]
  · isplitl [Hat]
    · isplitl [Hat]; · iexact Hat
      iexact Hr
    iexact Hats
  isplitl [Hcs]; · iexact Hcs
  isplitl [Hts]; · iexact Hts
  isplitl [Hw] <;> iassumption

theorem wst_free (c : Dev nD) {s s' n : ℕ} (h : n ≤ s + 3) :
    iprop(wbPts Wt c s ∗ WSt Wt c s' n (s + 3)) ⊢ WSt Wt c s' n (s + 4) := by
  unfold WSt
  rw [bigSep_Ico_succ_top (show n ≤ s + 3 from h), slot_next]
  iintro ⟨Hb, Hbs, Hrest⟩
  isplitl [Hb Hbs]
  · isplitl [Hb]; · iapply (wb_forget Wt c s); iexact Hb
    iexact Hbs
  iexact Hrest

/-! ## The products -/

theorem loop_copy (c : Dev nD) :
    iprop(recs X Wt K ∗ iprop(owing c (OA c 1) ∗ WSt Wt c 1 3 4 ∗ oPts c (acc X Wt c 0))
        ∗ bigSep (Finset.Ico 1 14) fun t => iprop(cred (tallyAt (rcvC c (src c t)) () NX) ∗ atPos ER (rcvC c (src c t)) 0 ∅ 0))
      ⊢ run c (steps (stepCopy (F := F) c) 13 1) (fun _ => iprop(iprop(owing c (OA c 1) ∗ WSt Wt c 14 16 17 ∗ oPts c (acc X Wt c 13))
          ∗ bigSep (Finset.Ico 1 14) fun t => iprop(atPos ER (rcvC c (src c t)) 1 ∅ 0 ∗ xgPts X c (gBlk (src c t))))) :=
  run_fam (c := c) (R := recs X Wt K) (stepCopy (F := F) c) (fun s => iprop(owing c (OA c 1) ∗ WSt Wt c s (s + 2) (s + 3) ∗ oPts c (acc X Wt c (s - 1))))
    (fun t => iprop(cred (tallyAt (rcvC c (src c t)) () NX) ∗ atPos ER (rcvC c (src c t)) 0 ∅ 0))
    (fun t => iprop(atPos ER (rcvC c (src c t)) 1 ∅ 0 ∗ xgPts X c (gBlk (src c t)))) 13 1 fun s h1 h2 => by
      unfold stepCopy
      rw [run_bind]
      iintro ⟨#HR, ⟨HO, HW, Ho⟩, Hc, Hat⟩
      iapply (run_use (wst_wait X Wt K c (show s < 16 by omega) (show s < s + 2 by omega))) $$ [HO HW]
      · isplitr; · iexact HR
        isplitl [HO] <;> iassumption
      iintro %_ ⟨HO, Hb, HW⟩
      rw [run_bind]
      iapply (run_use (wst_copy X Wt K c (show s + 2 < 16 by omega) (show s + 1 ≤ s + 2 by omega) (show s + 2 < s + 1 + 3 by omega) (show s + 2 < s + 3 by omega))) $$ [HW]
      · isplitr; · iexact HR
        iexact HW
      iintro %_ HW
      iapply (run_use (st_accum X Wt K c h1 (show s < 16 by omega))) $$ [HO Hb Ho Hc Hat]
      · isplitr; · iexact HR
        isplitl [Hc]; · iexact Hc
        isplitl [HO]; · iexact HO
        isplitl [Hat]; · iexact Hat
        isplitl [Hb] <;> iassumption
      iintro %_ ⟨HO, Hat, Hg, Hb, Ho⟩
      isplitl [HO HW Hb Ho]
      · isplitl [HO]; · iexact HO
        isplitl [HW Hb]
        · iapply (wst_free Wt c (s := s) (s' := s + 1) (n := s + 3) (Nat.le_refl _)); isplitl [Hb] <;> iassumption
        iexact Ho
      isplitl [Hat] <;> iassumption

theorem loop_last (c : Dev nD) :
    iprop(recs X Wt K ∗ iprop(owing c (OA c 1) ∗ WSt Wt c 14 16 17 ∗ oPts c (acc X Wt c 13))
        ∗ bigSep (Finset.Ico 14 16) fun t => iprop(cred (tallyAt (rcvC c (src c t)) () NX) ∗ atPos ER (rcvC c (src c t)) 0 ∅ 0))
      ⊢ run c (steps (stepLast (F := F) c) 2 14) (fun _ => iprop(iprop(owing c (OA c 1) ∗ WSt Wt c 16 16 19 ∗ oPts c (acc X Wt c 15))
          ∗ bigSep (Finset.Ico 14 16) fun t => iprop(atPos ER (rcvC c (src c t)) 1 ∅ 0 ∗ xgPts X c (gBlk (src c t))))) :=
  run_fam (c := c) (R := recs X Wt K) (stepLast (F := F) c) (fun s => iprop(owing c (OA c 1) ∗ WSt Wt c s 16 (s + 3) ∗ oPts c (acc X Wt c (s - 1))))
    (fun t => iprop(cred (tallyAt (rcvC c (src c t)) () NX) ∗ atPos ER (rcvC c (src c t)) 0 ∅ 0))
    (fun t => iprop(atPos ER (rcvC c (src c t)) 1 ∅ 0 ∗ xgPts X c (gBlk (src c t)))) 2 14 fun s h1 h2 => by
      unfold stepLast
      rw [run_bind]
      iintro ⟨#HR, ⟨HO, HW, Ho⟩, Hc, Hat⟩
      iapply (run_use (wst_wait X Wt K c (show s < 16 by omega) (show s < 16 by omega))) $$ [HO HW]
      · isplitr; · iexact HR
        isplitl [HO] <;> iassumption
      iintro %_ ⟨HO, Hb, HW⟩
      iapply (run_use (st_accum X Wt K c (show 1 ≤ s by omega) (show s < 16 by omega))) $$ [HO Hb Ho Hc Hat]
      · isplitr; · iexact HR
        isplitl [Hc]; · iexact Hc
        isplitl [HO]; · iexact HO
        isplitl [Hat]; · iexact Hat
        isplitl [Hb] <;> iassumption
      iintro %_ ⟨HO, Hat, Hg, Hb, Ho⟩
      isplitl [HO HW Hb Ho]
      · isplitl [HO]; · iexact HO
        isplitl [HW Hb]
        · iapply (wst_free Wt c (s := s) (s' := s + 1) (n := 16) (by omega)); isplitl [Hb] <;> iassumption
        iexact Ho
      isplitl [Hat] <;> iassumption

end Loops

end Cert.KernelProof

end
-- ==== Proof.BodyEq.lean ====
/-
  The printed body is the program of loops `bodyOf`, by unfolding both.
-/
module

public import proofs.«01_k».proof.Proof.Struct

@[expose] public section

noncomputable section

namespace Cert.KernelProof

open Cert.KernelIdeal Cert.KernelIdeal.Gen
open Idealize.ShloMosaic Idealize.SL.Sem

variable {F : FTy → Type} [FloatOps F]

set_option maxRecDepth 65536 in
set_option maxHeartbeats 2000000 in
/-- The printed body reads its device's number and runs that device's program. -/
theorem body_eq : body (F := F) = Prog.lift .deviceId >>= bodyOf := rfl

end Cert.KernelProof

end
-- ==== Proof.Body.lean ====
/-
  The whole body, once per device: from what a launch gives device `c` to the quantised block.
-/
module

public import proofs.«01_k».proof.Proof.Loops
public import proofs.«01_k».proof.Proof.BodyEq

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem assoc_sep (P Q R : sProp 𝕄) : iprop((P ∗ Q) ∗ R) = iprop(P ∗ Q ∗ R) := equiv_iff.mp ⟨BI.sep_assoc, BI.sep_assoc'⟩
theorem sep_nothing (P : sProp 𝕄) : iprop(P ∗ emp) = P := equiv_iff.mp BI.sep_emp
theorem fam_none (A : ℕ → sProp 𝕄) (a : ℕ) : bigSep (Finset.Ico a a) A = iprop(emp) := by rw [Finset.Ico_self, bigSep_empty]; rfl

/-! ## A device's own cells -/

/-- A family over a device's own cells, by kind. -/
theorem own_fam (A : Own → sProp 𝕄) : bigSep Finset.univ A = iprop((bigSep Finset.univ fun j : Fin 16 => A (.inl (0, j)))
    ∗ (bigSep Finset.univ fun j : Fin 16 => A (.inl (1, j))) ∗ (bigSep Finset.univ fun j : Fin 16 => A (.inl (2, j)))
    ∗ (bigSep Finset.univ fun j : Fin 16 => A (.inl (3, j))) ∗ (bigSep Finset.univ fun i : Fin 3 => A (.inr i))) := by
  rw [bigSep_univ_sum, bigSep_univ_prod, show (Finset.univ : Finset (Fin 4)) = {0, 1, 2, 3} from by decide,
    bigSep_insert (by decide), bigSep_insert (by decide), bigSep_insert (by decide), bigSep_singleton]
  show iprop((_ ∗ _ ∗ _ ∗ _) ∗ _) = _
  rw [assoc_sep, assoc_sep, assoc_sep]

/-- The round at which the program leaves cell `o` of device `c`. -/
def lastRound (c : Dev nD) : Own → ℕ
  | .inl (_, j) => if j = c then 0 else 1
  | .inr i => if i = 0 then 6 else 5

/-- A family with one member at `c` and another kind at the others. -/
theorem back_dst (c : Dev nD) (A : Fin 16 → ℕ → sProp 𝕄) :
    iprop(A c 0 ∗ bigSep (Finset.Ico 1 16) fun t => A (dst c t) 1) = bigSep Finset.univ fun j => A j (if j = c then 0 else 1) := by
  rw [fam_dst c (fun j => A j (if j = c then 0 else 1)), if_pos rfl,
    run_congr (A := fun t => A (dst c t) (if dst c t = c then 0 else 1)) (B := fun t => A (dst c t) 1) fun t h1 h2 => by rw [if_neg (dst_ne c t h1 h2)]]
theorem back_src (c : Dev nD) (A : Fin 16 → ℕ → sProp 𝕄) :
    iprop(A c 0 ∗ bigSep (Finset.Ico 1 16) fun t => A (src c t) 1) = bigSep Finset.univ fun j => A j (if j = c then 0 else 1) := by
  rw [fam_src c (fun j => A j (if j = c then 0 else 1)), if_pos rfl,
    run_congr (A := fun t => A (src c t) (if src c t = c then 0 else 1)) (B := fun t => A (src c t) 1) fun t h1 h2 => by rw [if_neg (src_ne c t h1 h2)]]

/-- A family over `1..15` is its first thirteen members and its last two. -/
theorem fam_13_2 (A : ℕ → sProp 𝕄) : bigSep (Finset.Ico 1 16) A = iprop(bigSep (Finset.Ico 1 14) A ∗ bigSep (Finset.Ico 14 16) A) := by
  rw [show Finset.Ico 1 16 = Finset.Ico 1 14 ∪ Finset.Ico 14 16 by decide]
  exact bigSep_union (by decide)

section Body

variable (X : Dev nD → Vec F S4096x256 .f32) (Wt : Dev nD → Vec F S4096x8192 .f32) (K : Dev nD × Option Own → ℕ)

theorem three_eq (A : ℕ → sProp 𝕄) (a : ℕ) : bigSep (Finset.Ico a (a + 3)) A = iprop(A a ∗ A (a + 1) ∗ A (a + 2)) := by
  rw [bigSep_Ico_succ_bot (by omega), bigSep_Ico_succ_bot (by omega), bigSep_Ico_succ_bot (by omega), fam_none, sep_nothing]

/-- The weights' slots at the start; -/
theorem wst_init (c : Dev nD) :
    iprop(recs X Wt K ∗ (bigSep Finset.univ fun i => wbAny c i) ∗ (bigSep Finset.univ fun i : Fin 3 => atPos ER (wgtC c i) 0 ∅ 0)
        ∗ (bigSep (Finset.Ico 0 16) fun t => dutyTok ER (wgtC c (slot t)) (t / 3) 0) ∗ wPts Wt c Finset.univ) ⊢ WSt Wt c 0 0 3 := by
  unfold WSt
  rw [Ring.bigSep_fin3, Ring.bigSep_fin3, three_eq _ 0, three_eq _ 0, fam_none, fam_none, bigSep_sep', w_blocks, fam_src0 c]
  iintro ⟨#HR, ⟨Hb0, Hb1, Hb2⟩, ⟨Ha0, Ha1, Ha2⟩, Ht, Hw⟩
  isplitl [Hb0 Hb1 Hb2]
  · isplitl [Hb0]; · iexact Hb0
    isplitl [Hb1]; · iexact Hb1
    iexact Hb2
  isplitl [Ha0 Ha1 Ha2]
  · isplitl [Ha0]
    · isplitl [Ha0]; · iexact Ha0
      iapply (reached_dma X Wt K c (.inr 0)); iexact HR
    isplitl [Ha1]
    · isplitl [Ha1]; · iexact Ha1
      iapply (reached_dma X Wt K c (.inr 1)); iexact HR
    isplitl [Ha2]; · iexact Ha2
    iapply (reached_dma X Wt K c (.inr 2)); iexact HR
  isplitr; · itrivial
  isplitl [Ht Hw]
  · isplitl [Ht] <;> iassumption
  itrivial

/-- and at the end. -/
theorem wst_done (c : Dev nD) :
    WSt Wt c 16 16 19 ⊢ iprop((bigSep Finset.univ fun i => wbAny c i) ∗ (bigSep Finset.univ fun i : Fin 3 => atPos ER (wgtC c i) (if i = 0 then 6 else 5) ∅ 0)
        ∗ wPts Wt c Finset.univ) := by
  unfold WSt
  rw [Ring.bigSep_fin3, Ring.bigSep_fin3, three_eq _ 16, three_eq _ 16, w_blocks, fam_src0 c]
  iintro ⟨⟨Hb1, Hb2, Hb0⟩, ⟨⟨Ha1, -⟩, ⟨Ha2, -⟩, ⟨Ha0, -⟩⟩, -, -, Hw⟩
  isplitl [Hb0 Hb1 Hb2]
  · isplitl [Hb0]; · iexact Hb0
    isplitl [Hb1]; · iexact Hb1
    iexact Hb2
  isplitl [Ha0 Ha1 Ha2]
  · isplitl [Ha0]; · iexact Ha0
    isplitl [Ha1]; · iexact Ha1
    iexact Ha2
  iexact Hw

/-- For the load of all maxima: the device's own share of every block, the rest of the received blocks aside. -/
theorem am_read (c : Dev nD) :
    iprop(amPts X Wt c (aBlk c) (lf c) ∗ bigSep (Finset.Ico 1 16) fun t => amPts X Wt c (aBlk (src c t)) fullShare)
      = iprop(amPts X Wt c Finset.univ (lf c) ∗ bigSep (Finset.Ico 1 16) fun t => bigSep (Finset.Ico 1 16) fun t' => amPts X Wt c (aBlk (src c t)) (lf (dst c t'))) := by
  rw [bigSep_congr (fun t _ => am_leaves X Wt c c (aBlk (src c t))), bigSep_sep', am_blocks, fam_src c]
  exact equiv_iff.mp ⟨BI.sep_assoc', BI.sep_assoc⟩

/-- The gathered blocks and the device's own place, as one buffer. -/
theorem xg_back (c : Dev nD) : iprop(xgAny (F := F) c (gBlk c) ∗ bigSep (Finset.Ico 1 16) fun t => xgPts X c (gBlk (src c t))) ⊢ xgAny c Finset.univ := by
  refine (sep_mono .rfl (bigSep_mono fun t _ => xg_forget X c (gBlk (src c t)))).trans ?_
  exact (Entails.of_eq (fam_src c (fun j => xgAny (F := F) c (gBlk j))).symm).trans (xg_join c)

/-- What device `c` starts with. -/
def Start (c : Dev nD) : sProp 𝕄 :=
  iprop(owing c (O₀ c) ∗ xPts c (X c) ∗ (∃ f, oPts c f) ∗ wPts Wt c Finset.univ
    ∗ (∃ f, ((c : Thread nD τ).loc cc0_scratch0) ↦{fullShare} f) ∗ xgAny c Finset.univ ∗ (∃ f, ((c : Thread nD τ).loc cc0_scratch2) ↦{fullShare} f) ∗ amAny c Finset.univ
    ∗ atPos ER (barC c) 0 ∅ 0 ∗ (bigSep Finset.univ fun o => atPos ER (dmaC c o) 0 ∅ 0)
    ∗ cred (tallyAt (barC c) () 15) ∗ (bigSep (Finset.univ.erase (c : Fin 16)) fun j => cred (tallyAt (rcvC c j) () NX))
    ∗ (bigSep (Finset.univ.erase (c : Fin 16)) fun j => cred (tallyAt (amrC c j) () NA))
    ∗ (bigSep (Finset.univ.erase (c : Fin 16)) fun p => dutyTok ER (barC p) 0 c)
    ∗ (bigSep (Finset.univ.erase (c : Fin 16)) fun j => dutyTok ER (sndC c j) 0 0) ∗ (bigSep (Finset.univ.erase (c : Fin 16)) fun p => dutyTok ER (rcvC p c) 0 0)
    ∗ (bigSep (Finset.univ.erase (c : Fin 16)) fun j => dutyTok ER (amsC c j) 0 0) ∗ (bigSep (Finset.univ.erase (c : Fin 16)) fun p => dutyTok ER (amrC p c) 0 0)
    ∗ (bigSep (Finset.Ico 0 16) fun t => dutyTok ER (wgtC c (slot t)) (t / 3) 0))

/-- What it ends with. -/
def Finish (c : Dev nD) : sProp 𝕄 :=
  iprop(owing c 0 ∗ xPts c (X c) ∗ oPts c (zV X Wt c) ∗ wPts Wt c Finset.univ
    ∗ (∃ f, ((c : Thread nD τ).loc cc0_scratch0) ↦{fullShare} f) ∗ xgAny c Finset.univ ∗ (∃ f, ((c : Thread nD τ).loc cc0_scratch2) ↦{fullShare} f) ∗ amAny c Finset.univ
    ∗ atPos ER (barC c) 1 ∅ 0 ∗ (bigSep Finset.univ fun o => atPos ER (dmaC c o) (lastRound c o) ∅ 0))

set_option maxRecDepth 8000 in
set_option maxHeartbeats 1600000 in
/-- The program of device `c`, from start to finish. -/
theorem run_body (c : Dev nD) : iprop(recs X Wt K ∗ Start X Wt c) ⊢ run c (bodyOf (F := F) c) (fun _ => Finish X Wt c) := by
  have hsig := loop_signal X Wt K c
  rw [bigSep_sep', bigSep_sep'] at hsig
  have hbar := st_barrier X Wt K c
  rw [others_dst c (fun p : Fin 16 => iprop(xgAny (F := F) p (gBlk c) ∗ amAny p (aBlk c))), bigSep_sep'] at hbar
  have hsx := loop_sendX X Wt K c
  rw [bigSep_sep', bigSep_sep', bigSep_sep'] at hsx
  have hcp := loop_copy X Wt K c
  rw [bigSep_sep', bigSep_sep'] at hcp
  have hls := loop_last X Wt K c
  rw [bigSep_sep', bigSep_sep'] at hls
  have hsa := loop_sendA X Wt K c
  rw [bigSep_sep', bigSep_sep', bigSep_sep'] at hsa
  have hwa := loop_waitA X Wt K c
  rw [bigSep_sep', bigSep_sep'] at hwa
  have hws := loop_waitSent X Wt K c
  rw [bigSep_sep', bigSep_sep', bigSep_sep', bigSep_sep', bigSep_sep', bigSep_sep'] at hws
  unfold Start bodyOf
  rw [others_src c, others_src c, others_dst c, others_dst c, others_dst c, others_dst c, others_dst c, own_fam]
  rw [fam_dst c (fun j => atPos ER (dmaC c (.inl (0, j))) 0 ∅ 0), fam_src c (fun j => atPos ER (dmaC c (.inl (1, j))) 0 ∅ 0),
    fam_dst c (fun j => atPos ER (dmaC c (.inl (2, j))) 0 ∅ 0), fam_src c (fun j => atPos ER (dmaC c (.inl (3, j))) 0 ∅ 0)]
  iintro ⟨#HR, HO, Hx, ⟨%fo, Ho⟩, Hw, ⟨%fs, Hs⟩, Hg, ⟨%fb, Hb⟩, Ha, Hbar, ⟨⟨P0c, P0⟩, ⟨P1c, P1⟩, ⟨P2c, P2⟩, ⟨P3c, P3⟩, Pw⟩, Cb, Cx, Ca, Tb, Ts, Tr, Tas, Tar, Tw⟩
  -- the buffers by blocks
  ihave Hg := (xg_split (F := F) c) $$ Hg
  ihave Ha := (am_split (F := F) c) $$ Ha
  ihave Hb := (wb_split c fb) $$ Hb
  ihave Hg := (Entails.of_eq (fam_dst c (fun j => xgAny (F := F) c (gBlk j)))) $$ Hg
  ihave Ha := (Entails.of_eq (fam_dst c (fun j => amAny (F := F) c (aBlk j)))) $$ Ha
  icases Hg with ⟨Hgc, Hg⟩
  icases Ha with ⟨Hac, Ha⟩
  ihave HW := (wst_init X Wt K c) $$ [Hb Pw Tw Hw]
  · isplitr; · iexact HR
    isplitl [Hb]; · iexact Hb
    isplitl [Pw]; · iexact Pw
    isplitl [Tw] <;> iassumption
  -- the narrow copy
  rw [run_bind]
  iapply (run_use (st_castX X c fs)) $$ [Hx Hs]
  · isplitl [Hx] <;> iassumption
  iintro %_ ⟨Hx, Hs⟩
  ihave Hs := (Entails.of_eq ((xs_blocks X c).trans (fam_dst c (fun j => xsPts X c (xBlk j))))) $$ Hs
  icases Hs with ⟨Hsc, Hs⟩
  -- the signals
  rw [run_bind]
  iapply (run_use hsig) $$ [HO Tb Hg Ha]
  · isplitr; · iexact HR
    isplitl [HO]; · iexact HO
    isplitl [Tb]; · iexact Tb
    isplitl [Hg] <;> iassumption
  iintro %_ HO
  rw [run_bind]
  iapply (run_use hbar) $$ [Cb HO Hbar]
  · isplitr; · iexact HR
    isplitl [Cb]; · iexact Cb
    isplitl [HO] <;> iassumption
  iintro %_ ⟨HO, Hbar, Hg, Ha⟩
  -- the first two copies of weights
  rw [run_bind]
  iapply (run_use (wst_copy X Wt K c (s := 0) (n := 0) (e := 3) (by decide) (by decide) (by decide) (by decide))) $$ [HW]
  · isplitr; · iexact HR
    iexact HW
  iintro %_ HW
  rw [run_bind]
  iapply (run_use (wst_copy X Wt K c (s := 0) (n := 1) (e := 3) (by decide) (by decide) (by decide) (by decide))) $$ [HW]
  · isplitr; · iexact HR
    iexact HW
  iintro %_ HW
  -- the sends of `x`
  rw [run_bind]
  iapply (run_use hsx) $$ [HO Hs Hg Ts Tr]
  · isplitr; · iexact HR
    isplitl [HO]; · iexact HO
    isplitl [Hs]; · iexact Hs
    isplitl [Hg]; · iexact Hg
    isplitl [Ts] <;> iassumption
  iintro %_ ⟨HO, Cs⟩
  -- the first product
  rw [run_bind]
  iapply (run_use (wst_wait X Wt K c (s := 0) (n := 2) (e := 3) (by decide) (by decide))) $$ [HO HW]
  · isplitr; · iexact HR
    isplitl [HO] <;> iassumption
  iintro %_ ⟨HO, Hb, HW⟩
  rw [run_bind]
  iapply (run_use (wst_copy X Wt K c (s := 1) (n := 2) (e := 3) (by decide) (by decide) (by decide) (by decide))) $$ [HW]
  · isplitr; · iexact HR
    iexact HW
  iintro %_ HW
  rw [run_bind]
  iapply (run_use (st_first X Wt c fo)) $$ [Hsc Hb Ho]
  · isplitl [Hsc]; · iexact Hsc
    isplitl [Hb] <;> iassumption
  iintro %_ ⟨Hsc, Hb, Ho⟩
  ihave HW := (wst_free Wt c (s := 0) (s' := 1) (n := 3) (by decide)) $$ [Hb HW]
  · isplitl [Hb] <;> iassumption
  -- the other products
  ihave Cx := (Entails.of_eq (fam_13_2 (fun t => cred (tallyAt (rcvC c (src c t)) () NX)))) $$ Cx
  ihave P1 := (Entails.of_eq (fam_13_2 (fun t => atPos ER (dmaC c (.inl (1, src c t))) 0 ∅ 0))) $$ P1
  icases Cx with ⟨Cx, Cx'⟩
  icases P1 with ⟨P1, P1'⟩
  rw [run_bind]
  iapply (run_use hcp) $$ [HO HW Ho Cx P1]
  · isplitr; · iexact HR
    isplitl [HO HW Ho]
    · isplitl [HO]; · iexact HO
      isplitl [HW] <;> iassumption
    isplitl [Cx] <;> iassumption
  iintro %_ ⟨⟨HO, HW, Ho⟩, P1, Hg⟩
  rw [run_bind]
  iapply (run_use hls) $$ [HO HW Ho Cx' P1']
  · isplitr; · iexact HR
    isplitl [HO HW Ho]
    · isplitl [HO]; · iexact HO
      isplitl [HW] <;> iassumption
    isplitl [Cx'] <;> iassumption
  iintro %_ ⟨⟨HO, HW, Ho⟩, P1', Hg'⟩
  -- the maxima
  rw [run_bind]
  iapply (run_use (st_relu X Wt c)) $$ [Hac Ho]
  · isplitl [Hac] <;> iassumption
  iintro %_ ⟨Hac, Ho⟩
  ihave Hac := (Entails.of_eq (am_leaves X Wt c c (aBlk c))) $$ Hac
  icases Hac with ⟨Hac, Hal⟩
  rw [run_bind]
  iapply (run_use hsa) $$ [HO Hal Ha Tas Tar]
  · isplitr; · iexact HR
    isplitl [HO]; · iexact HO
    isplitl [Hal]; · iexact Hal
    isplitl [Ha]; · iexact Ha
    isplitl [Tas] <;> iassumption
  iintro %_ ⟨HO, Cas⟩
  rw [run_bind]
  iapply (run_use hwa) $$ [HO Ca P3]
  · isplitr; · iexact HR
    isplitl [HO]; · iexact HO
    isplitl [Ca] <;> iassumption
  iintro %_ ⟨HO, P3, Har⟩
  -- the quantised block
  ihave Ham := (Entails.of_eq (am_read X Wt c)) $$ [Hac Har]
  · isplitl [Hac] <;> iassumption
  icases Ham with ⟨Ham, Hrest⟩
  rw [run_bind]
  iapply (run_use (st_quant X Wt c)) $$ [Ham Ho]
  · isplitl [Ham] <;> iassumption
  iintro %_ ⟨Ham, Ho⟩
  ihave Ham := (Entails.of_eq (am_read X Wt c).symm) $$ [Ham Hrest]
  · isplitl [Ham] <;> iassumption
  icases Ham with ⟨Hac, Har⟩
  -- what was sent
  iapply (run_use hws) $$ [HO Cs P0 Cas P2]
  · isplitr; · iexact HR
    isplitl [HO]; · iexact HO
    isplitl [Cs]; · iexact Cs
    isplitl [P0]; · iexact P0
    isplitl [Cas] <;> iassumption
  iintro %_ ⟨HO, P0, P2, Hs, Hal⟩
  -- everything back in its place
  ihave Hac := (Entails.of_eq (am_leaves X Wt c c (aBlk c)).symm) $$ [Hac Hal]
  · isplitl [Hac] <;> iassumption
  ihave Ham := (Entails.of_eq ((am_blocks X Wt c fullShare).trans (fam_src c (fun j => amPts X Wt c (aBlk j) fullShare))).symm) $$ [Hac Har]
  · isplitl [Hac] <;> iassumption
  ihave Ham := (am_forget X Wt c Finset.univ) $$ Ham
  ihave Hs := (Entails.of_eq ((xs_blocks X c).trans (fam_dst c (fun j => xsPts X c (xBlk j)))).symm) $$ [Hsc Hs]
  · isplitl [Hsc] <;> iassumption
  ihave Hg := (Entails.of_eq (fam_13_2 (fun t => xgPts X c (gBlk (src c t)))).symm) $$ [Hg Hg']
  · isplitl [Hg] <;> iassumption
  ihave Hg := (xg_back X c) $$ [Hgc Hg]
  · isplitl [Hgc] <;> iassumption
  ihave HW := (wst_done Wt c) $$ HW
  icases HW with ⟨Hb, Pw, Hw⟩
  ihave Hb := (wb_join c) $$ Hb
  ihave P1 := (Entails.of_eq (fam_13_2 (fun t => atPos ER (dmaC c (.inl (1, src c t))) 1 ∅ 0)).symm) $$ [P1 P1']
  · isplitl [P1] <;> iassumption
  ihave P0 := (Entails.of_eq (back_dst c (fun j r => atPos ER (dmaC c (.inl (0, j))) r ∅ 0))) $$ [P0c P0]
  · isplitl [P0c] <;> iassumption
  ihave P1 := (Entails.of_eq (back_src c (fun j r => atPos ER (dmaC c (.inl (1, j))) r ∅ 0))) $$ [P1c P1]
  · isplitl [P1c] <;> iassumption
  ihave P2 := (Entails.of_eq (back_dst c (fun j r => atPos ER (dmaC c (.inl (2, j))) r ∅ 0))) $$ [P2c P2]
  · isplitl [P2c] <;> iassumption
  ihave P3 := (Entails.of_eq (back_src c (fun j r => atPos ER (dmaC c (.inl (3, j))) r ∅ 0))) $$ [P3c P3]
  · isplitl [P3c] <;> iassumption
  unfold Finish
  rw [own_fam]
  isplitl [HO]; · iexact HO
  isplitl [Hx]; · iexact Hx
  isplitl [Ho]; · iexact Ho
  isplitl [Hw]; · iexact Hw
  isplitl [Hs]; · iexists _; unfold xsPts; iexact Hs
  isplitl [Hg]; · iexact Hg
  isplitl [Hb]; · iexact Hb
  isplitl [Ham]; · iexact Ham
  isplitl [Hbar]; · iexact Hbar
  isplitl [P0]; · iexact P0
  isplitl [P1]; · iexact P1
  isplitl [P2]; · iexact P2
  isplitl [P3]; · iexact P3
  iexact Pw

end Body

end Cert.KernelProof

end
-- ==== Proof.Ghost.lean ====
/-
  What the launch hands out: every cell's schedule and invariant, the right to make each contribution dealt to the device
  that makes it, and the credit of every wait to the device that waits.
-/
module

public import proofs.«01_k».proof.Proof.Body

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the contributions -/

theorem kc_inj : Function.Injective (kc : Dev nD × Option Own → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- A device's cells receive: one contribution per device at the barrier, one at each cell of the four kinds, sixteen
copies into the weights' slots. -/
abbrev Tk : Type := (Fin 16 ⊕ (Fin 4 × Fin 16)) ⊕ Fin 16
def tkK : Tk → Option Own × ℕ × Fin 16
  | .inl (.inl p) => (none, 0, p)
  | .inl (.inr (k, j)) => (some (.inl (k, j)), 0, 0)
  | .inr t => (some (.inr (slot t.val)), t.val / 3, 0)
theorem tkK_inj : Function.Injective tkK := by
  have h : ∀ a b : Tk, tkK a = tkK b → a = b := by decide +kernel
  exact fun a b => h a b
abbrev tkOf (ck : Dev nD × Tk) : GSem nD τ sig × ℕ × Fin 16 := (kc (ck.1, (tkK ck.2).1), (tkK ck.2).2)
theorem tkOf_inj : Function.Injective tkOf := by
  rintro ⟨c, k⟩ ⟨c', k'⟩ h
  have h1 := kc_inj (congrArg Prod.fst h)
  have h4 : (tkK k).1 = (tkK k').1 := congrArg Prod.snd h1
  have h5 : (tkK k).2 = (tkK k').2 := congrArg (fun x : GSem nD τ sig × ℕ × Fin 16 => x.2) h
  have h2 : k = k' := tkK_inj (Prod.ext h4 h5)
  have h3 : c = c' := congrArg Prod.fst h1
  rw [h2, h3]

def allCells : Finset (GSem nD τ sig) := Finset.univ.map ⟨kc, kc_inj⟩
def allToks : Finset (GSem nD τ sig × ℕ × Fin 16) := Finset.univ.map ⟨tkOf, tkOf_inj⟩

/-- A family over a device's cells is the barrier's member and its own cells'. -/
theorem opt_fam (A : Option Own → sProp 𝕄) : bigSep Finset.univ A = iprop(A none ∗ bigSep Finset.univ fun o : Own => A (some o)) := by
  rw [bigSep_univ_equiv (Equiv.optionEquivSumPUnit.{0} Own).symm, bigSep_univ_sum, bigSep_univ_of_subsingleton PUnit.unit]
  exact equiv_iff.mp ⟨BI.sep_comm, BI.sep_comm⟩

theorem fam16 (A : ℕ → sProp 𝕄) : (bigSep Finset.univ fun t : Fin 16 => A t.val) = bigSep (Finset.Ico 0 16) A := by
  rw [Ring.bigSep_fin_eq_range 16 _ A (fun _ _ => rfl), Finset.range_eq_Ico]

/-- A device's contributions, as its cells receive them; -/
def toks (c : Dev nD) : sProp 𝕄 := bigSep Finset.univ fun k : Tk => dutyTok ER (kc (c, (tkK k).1)) (tkK k).2.1 (tkK k).2.2
/-- by kind. -/
theorem toks_eq (c : Dev nD) : toks (F := F) c = iprop((bigSep Finset.univ fun p : Fin 16 => dutyTok ER (barC c) 0 p)
    ∗ (bigSep Finset.univ fun j : Fin 16 => dutyTok ER (sndC c j) 0 0) ∗ (bigSep Finset.univ fun j : Fin 16 => dutyTok ER (rcvC c j) 0 0)
    ∗ (bigSep Finset.univ fun j : Fin 16 => dutyTok ER (amsC c j) 0 0) ∗ (bigSep Finset.univ fun j : Fin 16 => dutyTok ER (amrC c j) 0 0)
    ∗ (bigSep (Finset.Ico 0 16) fun t => dutyTok ER (wgtC c (slot t)) (t / 3) 0)) := by
  unfold toks
  rw [bigSep_univ_sum, bigSep_univ_sum, bigSep_univ_prod, show (Finset.univ : Finset (Fin 4)) = {0, 1, 2, 3} from by decide,
    bigSep_insert (by decide), bigSep_insert (by decide), bigSep_insert (by decide), bigSep_singleton, ← fam16 (fun t => dutyTok ER (wgtC c (slot t)) (t / 3) 0)]
  show iprop((_ ∗ _ ∗ _ ∗ _ ∗ _) ∗ _) = _
  rw [assoc_sep, assoc_sep, assoc_sep, assoc_sep]
  rfl

/-- The contributions device `c` makes. -/
def pays (c : Dev nD) : sProp 𝕄 :=
  iprop((bigSep (Finset.univ.erase (c : Fin 16)) fun p => dutyTok ER (barC p) 0 c)
    ∗ (bigSep (Finset.univ.erase (c : Fin 16)) fun j => dutyTok ER (sndC c j) 0 0) ∗ (bigSep (Finset.univ.erase (c : Fin 16)) fun p => dutyTok ER (rcvC p c) 0 0)
    ∗ (bigSep (Finset.univ.erase (c : Fin 16)) fun j => dutyTok ER (amsC c j) 0 0) ∗ (bigSep (Finset.univ.erase (c : Fin 16)) fun p => dutyTok ER (amrC p c) 0 0)
    ∗ (bigSep (Finset.Ico 0 16) fun t => dutyTok ER (wgtC c (slot t)) (t / 3) 0))

theorem drop_own {A : Fin 16 → Fin 16 → sProp 𝕄} : (bigSep Finset.univ fun c : Fin 16 => bigSep Finset.univ fun j => A c j)
    ⊢ bigSep Finset.univ fun c : Fin 16 => bigSep (Finset.univ.erase c) fun j => A c j :=
  bigSep_mono fun c _ => bigSep_subset (Finset.erase_subset _ _)
theorem swap_own {A : Fin 16 → Fin 16 → sProp 𝕄} : (bigSep Finset.univ fun c : Fin 16 => bigSep Finset.univ fun j => A c j)
    ⊢ bigSep Finset.univ fun j : Fin 16 => bigSep (Finset.univ.erase j) fun c => A c j :=
  (Entails.of_eq (bigSep_univ_comm A)).trans drop_own

/-- Every contribution dealt to the device that makes it. -/
theorem toks_dealt : (bigSep Finset.univ fun c : Dev nD => (toks c : sProp 𝕄)) ⊢ bigSep Finset.univ fun c : Dev nD => pays c := by
  rw [bigSep_congr fun c _ => toks_eq c]
  unfold pays
  rw [bigSep_sep', bigSep_sep', bigSep_sep', bigSep_sep', bigSep_sep', bigSep_sep', bigSep_sep', bigSep_sep', bigSep_sep', bigSep_sep']
  exact BIClass.sep_mono swap_own (BIClass.sep_mono drop_own (BIClass.sep_mono swap_own (BIClass.sep_mono drop_own (BIClass.sep_mono swap_own .rfl))))

/-! ## The ghost state -/

section Deal

variable (X : Dev nD → Vec F S4096x256 .f32) (Wt : Dev nD → Vec F S4096x8192 .f32)

def u₀ : UU := (initOf (Pipeline.cells cfgs cellOf_inj) (Pipeline.launchToks cfgs cellOf_inj), initOf allCells allToks)

/-- What the launch element gives device `c`. -/
def G (c : Dev nD) : sProp 𝕄 :=
  iprop((bigSep Finset.univ fun k : Option Own => roundState ER (Rd X Wt) (kc (c, k)) 0)
    ∗ (bigSep Finset.univ fun k : Option Own => iprop(atPos ER (kc (c, k)) 0 ∅ 0 ∗ reached ER (kc (c, k)) 0)) ∗ toks c)

theorem fund : BI.own (ER (initOf allCells allToks)) ⊢ (|==> bigSep Finset.univ (G X Wt) : sProp 𝕄) := by
  have hX (Φ : GSem nD τ sig → sProp 𝕄) : bigSep allCells Φ = bigSep Finset.univ fun c : Dev nD => bigSep Finset.univ fun k : Option Own => Φ (kc (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd X Wt) allCells allToks) $$ HX with ⟨Hst, Hr, Hat, Htok⟩
  imodintro
  ihave Hst := (Entails.of_eq (hX fun g => roundState ER (Rd X Wt) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems_eq (c : Dev nD) : (Pipeline.ownSems0 (Ix := Unit) (Name := ℕ) (U := UU) (Lvl := ℕ) (Val := Elt F) (τ := τ) osem c : sProp 𝕄)
    = bigSep Finset.univ fun o => semVal (dmaC c o) 0 := rfl
theorem barSem_eq (c : Dev nD) : (unscopedSems0 c : sProp 𝕄) = semVal (barC c) 0 := by
  unfold unscopedSems0; rw [bigSep_eq_bigSepL_of_eq [SemLoc.reg barS] (by decide +kernel) (by decide)]; rfl

/-- One device's cells put under their invariants. -/
theorem core_alloc (c : Dev nD) :
    iprop(Pipeline.ownSems0 (Ix := Unit) (Name := ℕ) (U := UU) (Lvl := ℕ) (Val := Elt F) (τ := τ) osem c ∗ unscopedSems0 c ∗ G X Wt c)
      ⊢ |={Set.univ}=> iprop((bigSep Finset.univ fun k => iprop(∃ κ : ℕ, cellInv ER (Rd X Wt) κ (kc (c, k))))
          ∗ (bigSep Finset.univ fun k => iprop(atPos ER (kc (c, k)) 0 ∅ 0 ∗ reached ER (kc (c, k)) 0)) ∗ toks c) := by
  have hv := opt_fam (F := F) fun k => semVal (kc (c, k)) 0
  have ha : iprop((bigSep Finset.univ fun k : Option Own => semVal (kc (c, k)) 0) ∗ bigSep Finset.univ fun k : Option Own => roundState ER (Rd X Wt) (kc (c, k)) 0)
      ⊢ (|={Set.univ}=> bigSep Finset.univ fun k => iprop(∃ κ : ℕ, cellInv ER (Rd X Wt) κ (kc (c, k))) : sProp 𝕄) := by
    rw [← bigSep_sep']
    exact (bigSep_mono fun k _ => (Rounds.body_intro ER (Rd X Wt) (kc (c, k))).trans inv_alloc).trans (bigSep_fupd _ _)
  unfold G
  rw [ownSems_eq, barSem_eq]
  iintro ⟨Hos, Hus, Hst, Hat, Htok⟩
  ihave Hv := (Entails.of_eq hv.symm) $$ [Hos Hus]
  · isplitl [Hus]; · iexact Hus
    iexact Hos
  imod ha $$ [Hv Hst] with Hinv
  · isplitl [Hv] <;> iassumption
  imodintro
  isplitl [Hinv]; · iexact Hinv
  isplitl [Hat] <;> iassumption

/-- What every device needs to know, but for the levels. -/
def known (K : Dev nD × Option Own → ℕ) : sProp 𝕄 :=
  iprop((bigSep Finset.univ fun ck => cellInv ER (Rd X Wt) (K ck) (kc ck)) ∗ (bigSep Finset.univ fun ck => reached ER (kc ck) 0))
instance known_persistent (K) : BI.Persistent (known (F := F) X Wt K) := by unfold known; infer_instance

/-- What device `c` gets once all the cells are under their invariants. -/
def G' (c : Dev nD) : sProp 𝕄 := iprop((∃ K, known X Wt K) ∗ (bigSep Finset.univ fun k : Option Own => atPos ER (kc (c, k)) 0 ∅ 0) ∗ pays c)

theorem with_known {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X Wt) κ (kc (c, k))))
          ∗ (bigSep Finset.univ fun k => iprop(atPos ER (kc (c, k)) 0 ∅ 0 ∗ reached ER (kc (c, k)) 0)) ∗ toks c) : sProp 𝕄)
      ⊢ bigSep Finset.univ (G' X Wt) := by
  rw [bigSep_sep', bigSep_sep', ← bigSep_univ_prod (fun ck : Dev nD × Option Own => iprop(∃ κ : ℕ, cellInv ER (Rd X Wt) κ (kc ck))),
    bigSep_congr (s := Finset.univ) (fun (c : Dev nD) _ => bigSep_sep' Finset.univ (fun k : Option Own => (atPos ER (kc (c, k)) 0 ∅ 0 : sProp 𝕄)) (fun k => reached ER (kc (c, k)) 0)),
    bigSep_sep', ← bigSep_univ_prod (fun ck : Dev nD × Option Own => (reached ER (kc ck) 0 : sProp 𝕄))]
  have hj : iprop((bigSep Finset.univ fun c : Dev nD => bigSep Finset.univ fun k : Option Own => (atPos ER (kc (c, k)) 0 ∅ 0 : sProp 𝕄)) ∗ bigSep Finset.univ fun c : Dev nD => pays c)
      = bigSep Finset.univ fun c : Dev nD => iprop((bigSep Finset.univ fun k : Option Own => (atPos ER (kc (c, k)) 0 ∅ 0 : sProp 𝕄)) ∗ pays c) := (bigSep_sep' _ _ _).symm
  have hk (K : Dev nD × Option Own → ℕ) (c : Dev nD) :
      iprop(known X Wt K ∗ (bigSep Finset.univ fun k : Option Own => (atPos ER (kc (c, k)) 0 ∅ 0 : sProp 𝕄)) ∗ pays c) ⊢ G' X Wt c := by
    unfold G'
    iintro ⟨HK, Ha, Hp⟩
    isplitl [HK]; · iexists K; iexact HK
    isplitl [Ha] <;> iassumption
  iintro ⟨HI, ⟨Hat, #HR⟩, Htok⟩
  ihave HK := (BI.bigSep_exists_pi Finset.univ (fun (ck : Dev nD × Option Own) (κ : ℕ) => (cellInv ER (Rd X Wt) κ (kc ck) : sProp 𝕄))) $$ HI
  icases HK with ⟨%K, #HI⟩
  ihave Htk := (toks_dealt (F := F)) $$ Htok
  ihave Hl := (Entails.of_eq hj) $$ [Hat Htk]
  · isplitl [Hat] <;> iassumption
  iapply (with_known (R := known X Wt K) fun c _ => hk K c)
  isplitr
  · unfold known; isplitl; · iexact HI
    iexact HR
  iexact Hl

/-- All the devices' semaphores put under their invariants at once. -/
theorem glob : (bigSep Finset.univ fun c => iprop(Pipeline.ownSems0 (Ix := Unit) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

end Deal

/-! ## The credits -/

/-- What a sum of single amounts holds at a cell. -/
theorem sum_at (S : Finset ℕ) (gs : ℕ → Dev nD × Option Own) (n : ℕ) (ck : Dev nD × Option Own) :
    (∑ t ∈ S, tallyAt (kc (gs t)) () n : CellTallies nD τ sig Unit) (kc ck) () = ∑ t ∈ S, if ck = gs t then n else 0 := by
  rw [Finset.sum_apply, Finsupp.finset_sum_apply]
  refine Finset.sum_congr rfl fun t _ => ?_
  rw [tallyAt_apply]
  by_cases h : ck = gs t
  · rw [if_pos h, if_pos ⟨by rw [h], rfl⟩]
  · rw [if_neg h, if_neg fun h' => h (kc_inj h'.1)]

theorem OB_at (d : Dev nD) (ck) : OB d 1 (kc ck) () = ∑ t ∈ Finset.Ico 1 16, if ck = (dst d t, none) then 1 else 0 := sum_at _ (fun t => (dst d t, none)) 1 ck
theorem OX_at (d : Dev nD) (ck) : OX d 1 (kc ck) () = ∑ t ∈ Finset.Ico 1 16, if ck = (dst d t, some (.inl (1, d))) then NX else 0 :=
  sum_at _ (fun t => (dst d t, some (.inl (1, d)))) NX ck
theorem OA_at (d : Dev nD) (ck) : OA d 1 (kc ck) () = ∑ t ∈ Finset.Ico 1 16, if ck = (dst d t, some (.inl (3, d))) then NA else 0 :=
  sum_at _ (fun t => (dst d t, some (.inl (3, d)))) NA ck

theorem hits : ∀ d c : Fin 16, (∑ t ∈ Finset.Ico 1 16, if c = dst d t then 1 else 0) = if d = c then 0 else 1 := by decide +kernel
theorem hits_n (d c : Dev nD) (n : ℕ) : (∑ t ∈ Finset.Ico 1 16, if c = dst d t then n else 0) = if d = c then 0 else n := by
  have h : (∑ t ∈ Finset.Ico 1 16, if c = dst d t then n else 0) = (∑ t ∈ Finset.Ico 1 16, if c = dst d t then 1 else 0) * n := by
    rw [Finset.sum_mul]; exact Finset.sum_congr rfl fun t _ => by split <;> simp
  rw [h]
  have h' := hits d c
  rw [show (∑ t ∈ Finset.Ico 1 16, if c = dst d t then 1 else 0) = if d = c then 0 else 1 from h']
  split <;> simp

theorem O₀_at (d : Dev nD) (ck) : O₀ d (kc ck) () = OA d 1 (kc ck) () + OX d 1 (kc ck) () + OB d 1 (kc ck) () := rfl

theorem owed_bar (d c : Dev nD) : O₀ d (barC c) () = if d = c then 0 else 1 := by
  rw [show barC c = kc (c, none) from rfl, O₀_at, OA_at, OX_at, OB_at, Finset.sum_eq_zero, Finset.sum_eq_zero, Nat.zero_add, Nat.zero_add, ← hits_n]
  · refine Finset.sum_congr rfl fun t _ => ?_
    simp only [Prod.mk.injEq, and_true]
  · intro t _; rw [if_neg fun h => by cases congrArg Prod.snd h]
  · intro t _; rw [if_neg fun h => by cases congrArg Prod.snd h]
theorem owed_rcv (d c : Dev nD) (j : Fin 16) : O₀ d (rcvC c j) () = if d = j ∧ j ≠ c then NX else 0 := by
  rw [show rcvC c j = kc (c, some (.inl (1, j))) from rfl, O₀_at, OA_at, OX_at, OB_at]
  rw [Finset.sum_eq_zero (s := Finset.Ico 1 16) (f := fun t => if ((c, some (.inl (1, j))) : Dev nD × Option Own) = (dst d t, some (.inl (3, d))) then NA else 0),
    Finset.sum_eq_zero (s := Finset.Ico 1 16) (f := fun t => if ((c, some (.inl (1, j))) : Dev nD × Option Own) = (dst d t, none) then 1 else 0), Nat.zero_add, Nat.add_zero]
  · by_cases h : d = j
    · subst h
      have h' := hits_n d c NX
      rw [show (∑ t ∈ Finset.Ico 1 16, if ((c, some (.inl (1, d))) : Dev nD × Option Own) = (dst d t, some (.inl (1, d))) then NX else 0)
        = ∑ t ∈ Finset.Ico 1 16, if c = dst d t then NX else 0 from Finset.sum_congr rfl fun t _ => by simp only [Prod.mk.injEq, and_true], h']
      by_cases hc : d = c
      · rw [if_pos hc, if_neg fun h => h.2 hc]
      · rw [if_neg hc, if_pos ⟨rfl, hc⟩]
    · rw [if_neg fun h' => h h'.1, Finset.sum_eq_zero]
      intro t _
      rw [if_neg fun h' => h (by simp only [Prod.mk.injEq, Option.some.injEq, Sum.inl.injEq] at h'; exact h'.2.2.symm)]
  · intro t _; rw [if_neg fun h => by cases congrArg Prod.snd h]
  · intro t _; rw [if_neg fun h => by simp only [Prod.mk.injEq, Option.some.injEq, Sum.inl.injEq] at h; exact absurd h.2.1 (by decide)]
theorem owed_amr (d c : Dev nD) (j : Fin 16) : O₀ d (amrC c j) () = if d = j ∧ j ≠ c then NA else 0 := by
  rw [show amrC c j = kc (c, some (.inl (3, j))) from rfl, O₀_at, OA_at, OX_at, OB_at]
  rw [Finset.sum_eq_zero (s := Finset.Ico 1 16) (f := fun t => if ((c, some (.inl (3, j))) : Dev nD × Option Own) = (dst d t, some (.inl (1, d))) then NX else 0),
    Finset.sum_eq_zero (s := Finset.Ico 1 16) (f := fun t => if ((c, some (.inl (3, j))) : Dev nD × Option Own) = (dst d t, none) then 1 else 0), Nat.add_zero, Nat.add_zero]
  · by_cases h : d = j
    · subst h
      have h' := hits_n d c NA
      rw [show (∑ t ∈ Finset.Ico 1 16, if ((c, some (.inl (3, d))) : Dev nD × Option Own) = (dst d t, some (.inl (3, d))) then NA else 0)
        = ∑ t ∈ Finset.Ico 1 16, if c = dst d t then NA else 0 from Finset.sum_congr rfl fun t _ => by simp only [Prod.mk.injEq, and_true], h']
      by_cases hc : d = c
      · rw [if_pos hc, if_neg fun h => h.2 hc]
      · rw [if_neg hc, if_pos ⟨rfl, hc⟩]
    · rw [if_neg fun h' => h h'.1, Finset.sum_eq_zero]
      intro t _
      rw [if_neg fun h' => h (by simp only [Prod.mk.injEq, Option.some.injEq, Sum.inl.injEq] at h'; exact h'.2.2.symm)]
  · intro t _; rw [if_neg fun h => by cases congrArg Prod.snd h]
  · intro t _; rw [if_neg fun h => by simp only [Prod.mk.injEq, Option.some.injEq, Sum.inl.injEq] at h; exact absurd h.2.1 (by decide)]

/-- A cell's credit at the launch is what the devices owe it. -/
theorem credit_of (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem credit_bar (c : Dev nD) : tallyOn (barC c) (launchCredit (Pipeline.owing O₀) 0 (barC c)) = (tallyAt (barC c) () 15 : CellTallies nD τ sig Unit) := by
  refine credit_of _ _ ?_
  rw [Finset.sum_congr rfl fun d _ => owed_bar d c]
  revert c; decide
theorem sum_only (c j : Dev nD) (h : j ≠ c) (n : ℕ) : ∑ d : Dev nD, (if d = j ∧ j ≠ c then n else 0) = n := by
  rw [Finset.sum_eq_single j (fun d _ hd => if_neg fun h' => hd h'.1) (fun h' => absurd (Finset.mem_univ _) h'), if_pos ⟨rfl, h⟩]
theorem credit_rcv (c j : Dev nD) (h : j ≠ c) :
    tallyOn (rcvC c j) (launchCredit (Pipeline.owing O₀) 0 (rcvC c j)) = (tallyAt (rcvC c j) () NX : CellTallies nD τ sig Unit) :=
  credit_of _ _ ((Finset.sum_congr rfl fun d _ => owed_rcv d c j).trans (sum_only c j h NX))
theorem credit_amr (c j : Dev nD) (h : j ≠ c) :
    tallyOn (amrC c j) (launchCredit (Pipeline.owing O₀) 0 (amrC c j)) = (tallyAt (amrC c j) () NA : CellTallies nD τ sig Unit) :=
  credit_of _ _ ((Finset.sum_congr rfl fun d _ => owed_amr d c j).trans (sum_only c j h NA))

/-- The credits of a device's waits on the others. -/
theorem creds (c : Dev nD) :
    (Pipeline.launchCred O₀ c : sProp 𝕄) ⊢ iprop(cred (tallyAt (barC c) () 15) ∗ (bigSep (Finset.univ.erase (c : Fin 16)) fun j => cred (tallyAt (rcvC c j) () NX))
      ∗ (bigSep (Finset.univ.erase (c : Fin 16)) fun j => cred (tallyAt (amrC c j) () NA))) := by
  unfold Pipeline.launchCred
  refine (bigSep_subset (Finset.subset_univ (Finset.univ.map ⟨csem, csem_inj⟩))).trans ?_
  rw [bigSep_map, opt_fam, own_fam]
  refine (BIClass.sep_mono (Entails.of_eq (congrArg cred (credit_bar c))) (show _ ⊢ iprop((bigSep (Finset.univ.erase (c : Fin 16)) fun j => cred (tallyAt (rcvC c j) () NX))
      ∗ (bigSep (Finset.univ.erase (c : Fin 16)) fun j => cred (tallyAt (amrC c j) () NA))) from ?_))
  have h1 : (bigSep Finset.univ fun j : Fin 16 => cred (tallyOn (rcvC c j) (launchCredit (Pipeline.owing O₀) 0 (rcvC c j))) : sProp 𝕄)
      ⊢ bigSep (Finset.univ.erase (c : Fin 16)) fun j => cred (tallyAt (rcvC c j) () NX) :=
    (bigSep_subset (Finset.erase_subset c _)).trans (bigSep_mono fun j hj => Entails.of_eq (congrArg cred (credit_rcv c j (Finset.ne_of_mem_erase hj))))
  have h3 : (bigSep Finset.univ fun j : Fin 16 => cred (tallyOn (amrC c j) (launchCredit (Pipeline.owing O₀) 0 (amrC c j))) : sProp 𝕄)
      ⊢ bigSep (Finset.univ.erase (c : Fin 16)) fun j => cred (tallyAt (amrC c j) () NA) :=
    (bigSep_subset (Finset.erase_subset c _)).trans (bigSep_mono fun j hj => Entails.of_eq (congrArg cred (credit_amr c j (Finset.ne_of_mem_erase hj))))
  iintro ⟨-, H1, -, H3, -⟩
  isplitl [H1]
  · iapply h1; iexact H1
  iapply h3; iexact H3

end Cert.KernelProof

end
-- ==== Proof.Launch.lean ====
/-
  The launch: from any memory with every counter at zero the sixteen devices run to the end, each leaves its rows of the
  result, and every counter is at zero again.
-/
module

public import proofs.«01_k».proof.Proof.Ghost
public import proofs.«01_k».proof.Proof.BodyEq
public import Idealize.ShloMosaic.Lib.Pipeline.CollectiveSegs

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the devices are launched with -/

/-- Device `c`'s columns of the left operand, as they are staged; -/
def xIn (c : Dev nD) : Vec F S4096x256 .f32 := (win0_0.blk (0 : Fin 1)).view.read (Elt F) (m ((c : Thread nD τ).loc main_arg0))
/-- and its copy of the right operand. -/
def wIn (c : Dev nD) : Vec F S4096x8192 .f32 := m ((c : Thread nD τ).loc main_arg1)

/-- What device `c` holds of its scratch and of the right operand, and what it may do, before it starts; -/
def Before (c : Dev nD) : sProp 𝕄 :=
  iprop((∃ K, recs (xIn m) (wIn m) K) ∗ wPts (wIn m) c Finset.univ
    ∗ (bigSep Finset.univ fun k : Option Own => atPos ER (kc (c, k)) 0 ∅ 0) ∗ pays c
    ∗ cred (tallyAt (barC c) () 15) ∗ (bigSep (Finset.univ.erase (c : Fin 16)) fun j => cred (tallyAt (rcvC c j) () NX))
    ∗ (bigSep (Finset.univ.erase (c : Fin 16)) fun j => cred (tallyAt (amrC c j) () NA)))
/-- its scratch, at any contents; -/
def Scratch (c : Dev nD) : sProp 𝕄 :=
  iprop((∃ f, ((c : Thread nD τ).loc cc0_scratch0) ↦{fullShare} f) ∗ xgAny c Finset.univ ∗ (∃ f, ((c : Thread nD τ).loc cc0_scratch2) ↦{fullShare} f) ∗ amAny c Finset.univ)
/-- and what it has left: the right operand, and its semaphores at zero. -/
def After (c : Dev nD) : sProp 𝕄 :=
  iprop(wPts (wIn m) c Finset.univ ∗ semVal (barC c) 0 ∗ (bigSep Finset.univ fun o : Own => semVal (dmaC c o) 0))

def dats (_ : Fin 1) (c : Dev nD) : Pipeline.Dat τ (Elt F) Unit ℕ UU ℕ cfg0 c where
  A w := m ((cfg0.win w).arr.view.loc (c : Thread nD τ))
  after w _ := match w with
    | ⟨0, _⟩ => xIn m c
    | ⟨1, _⟩ => zV (xIn m) (wIn m) c
  Φ t := match t with
    | ⟨0, _⟩ => iprop(Before m c ∗ Scratch c)
    | ⟨_ + 1, _⟩ => iprop(After m c ∗ Scratch c)
  q _ := fullShare
  owed t := match t with
    | ⟨0, _⟩ => O₀ c
    | ⟨_ + 1, _⟩ => 0

/-! ## The body -/

/-- Once its last wait is over each cell's counter is zero. -/
theorem closed (K : Dev nD × Option Own → ℕ) (c : Dev nD) :
    iprop(recs (xIn m) (wIn m) K ∗ atPos ER (barC c) 1 ∅ 0 ∗ (bigSep Finset.univ fun o => atPos ER (dmaC c o) (lastRound c o) ∅ 0))
      ⊢ |={Set.univ}=> iprop(semVal (barC c) 0 ∗ (bigSep Finset.univ fun o : Own => semVal (dmaC c o) 0)) := by
  have hlast : ∀ (k : Option Own) (r : ℕ), (match k with | none => 1 | some o => lastRound c o) ≤ r → (Rd (xIn m) (wIn m)).duties (kc (c, k)) r = ∅ := fun k r hr => by
    rw [duties_kc]
    rcases k with _ | ⟨_, j⟩ | i
    · exact if_neg (by have : 1 ≤ r := hr; omega)
    · refine if_neg ?_
      rintro ⟨h0, hj⟩
      have : (if j = c then 0 else 1) ≤ r := hr
      rw [if_neg hj] at this; omega
    · refine if_neg ?_
      have h : (if i = 0 then 6 else 5) ≤ r := hr
      by_cases hi : i = 0
      · rw [if_pos hi] at h; omega
      · rw [if_neg hi] at h
        have : i.val ≠ 0 := fun h' => hi (Fin.ext h')
        omega
  have hcl := Rounds.cells_close ER (Rd (xIn m) (wIn m)) Finset.univ (fun k : Option Own => kc (c, k)) (fun k => K (c, k)) (fun _ _ => Set.mem_univ _) (fun _ _ h => h)
    (fun k => match k with | none => 1 | some o => lastRound c o) (fun k _ r hr => hlast k r hr)
  have hall : (bigSep Finset.univ fun ck => cellInv ER (Rd (xIn m) (wIn m)) (K ck) (kc ck))
      ⊢ (bigSep Finset.univ fun k : Option Own => cellInv ER (Rd (xIn m) (wIn m)) (K (c, k)) (kc (c, k)) : sProp 𝕄) := by
    rw [bigSep_univ_prod]; exact bigSep_elim (Φ := fun d => bigSep Finset.univ fun k : Option Own => cellInv ER (Rd (xIn m) (wIn m)) (K (d, k)) (kc (d, k))) (Finset.mem_univ c)
  have hj := bigSep_sep' Finset.univ (fun k : Option Own => (cellInv ER (Rd (xIn m) (wIn m)) (K (c, k)) (kc (c, k)) : sProp 𝕄))
    (fun k => atPos ER (kc (c, k)) (match k with | none => 1 | some o => lastRound c o) ∅ 0)
  have ho := opt_fam (F := F) fun k => atPos ER (kc (c, k)) (match k with | none => 1 | some o => lastRound c o) ∅ 0
  have hv := opt_fam (F := F) fun k => semVal (kc (c, k)) 0
  unfold recs
  iintro ⟨⟨HI, -, -⟩, Hb, Ho⟩
  ihave HI := hall $$ HI
  ihave Hp := (Entails.of_eq ho.symm) $$ [Hb Ho]
  · isplitl [Hb]; · iexact Hb
    iexact Ho
  ihave Hall := (Entails.of_eq hj.symm) $$ [HI Hp]
  · isplitl [HI]; · iexact HI
    iexact Hp
  imod hcl $$ Hall with Hs
  imodintro
  ihave Hs := (Entails.of_eq hv) $$ Hs
  iexact Hs

/-- A program that reads its device's number first runs as that device's. -/
theorem run_device_id (c : Dev nD) (p : Dev nD → P F PUnit) (Q : PUnit → sProp 𝕄) : run c (p c) Q ⊢ run c (Prog.lift .deviceId >>= p) Q := by
  simp only [Prog.lift, Prog.bind_op, Prog.bind_ret, wp_deviceId]
  exact .rfl

/-- One device's program, from what it is launched with to what it leaves. -/
theorem run_device (c : Dev nD) :
    iprop(Before m c ∗ Scratch c ∗ owing c (O₀ c) ∗ xPts c (xIn m c) ∗ (∃ f, oPts c f))
      ⊢ run c (body (F := F)) (fun _ => iprop(After m c ∗ Scratch c ∗ owing c 0 ∗ xPts c (xIn m c) ∗ oPts c (zV (xIn m) (wIn m) c))) := by
  have hb : ∀ Q : PUnit → sProp 𝕄, run c (bodyOf (F := F) c) Q ⊢ run c (body (F := F)) Q := fun Q => by
    rw [body_eq]; exact run_device_id c bodyOf Q
  have hrun := fun K => run_body (xIn m) (wIn m) K c
  have hpos := opt_fam (F := F) fun k => atPos ER (kc (c, k)) 0 ∅ 0
  refine .trans ?_ (hb _)
  refine .trans ?_ (wp_fupd _ _ _ _ _)
  unfold Before Scratch
  iintro ⟨⟨⟨%K, #HK⟩, Hw, Hat, Hp, C1, C2, C3⟩, ⟨S0, S1, S2, S3⟩, HO, Hx, Ho⟩
  ihave Hat := (Entails.of_eq hpos) $$ Hat
  icases Hat with ⟨Hbar, Hdma⟩
  iapply (run_use (hrun K)) $$ [HK Hw Hbar Hdma Hp C1 C2 C3 S0 S1 S2 S3 HO Hx Ho]
  · isplitr; · iexact HK
    unfold Start pays
    isplitl [HO]; · iexact HO
    isplitl [Hx]; · iexact Hx
    isplitl [Ho]; · iexact Ho
    isplitl [Hw]; · iexact Hw
    isplitl [S0]; · iexact S0
    isplitl [S1]; · iexact S1
    isplitl [S2]; · iexact S2
    isplitl [S3]; · iexact S3
    isplitl [Hbar]; · iexact Hbar
    isplitl [Hdma]; · iexact Hdma
    isplitl [C1]; · iexact C1
    isplitl [C2]; · iexact C2
    isplitl [C3]; · iexact C3
    iexact Hp
  iintro %u Hf
  unfold Finish
  icases Hf with ⟨HO, Hx, Ho, Hw, S0, S1, S2, S3, Hbar, Hdma⟩
  imod (closed m K c) $$ [Hbar Hdma] with ⟨Vb, Vd⟩
  · isplitr; · iexact HK
    isplitl [Hbar]; · iexact Hbar
    iexact Hdma
  imodintro
  unfold After
  isplitl [Hw Vb Vd]
  · isplitl [Hw]; · iexact Hw
    isplitl [Vb]; · iexact Vb
    iexact Vd
  isplitl [S0 S1 S2 S3]
  · isplitl [S0]; · iexact S0
    isplitl [S1]; · iexact S1
    isplitl [S2] <;> iassumption
  isplitl [HO]; · iexact HO
  isplitl [Hx]; · iexact Hx
  iexact Ho

theorem bigSep_W (A : Fin cfg0.W → sProp 𝕄) : bigSep Finset.univ A = iprop(A (0 : Fin 2) ∗ A (1 : Fin 2)) := bigSep_W0 A

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def pre (c : Dev nD) : sProp 𝕄 :=
  iprop((Before m c ∗ Scratch c) ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def post (c : Dev nD) : sProp 𝕄 :=
  iprop((After m c ∗ Scratch c) ∗ (dats m 0 c).owesAt () t0_0.succ ∗ stg c cc0_stg0_0 (xIn m c) ∗ stg c cc0_stg1_0 (zV (xIn m) (wIn m) c))

theorem pre_post (c : Dev nD) : pre m c ⊢ run c (body (F := F)) (fun _ => post m c) := by
  have hx : ∀ d, (dats m 0 c).before (0 : Fin 2) t0_0 d = xIn m c := fun d => by
    unfold Pipeline.Dat.before; rw [if_pos (fetch0_0 t0_0)]; rfl
  unfold pre Pipeline.Dat.owesAt Pipeline.owesWithin
  rw [show (dats m 0 c).owed t0_0.castSucc = O₀ c from rfl]
  iintro ⟨⟨HB, HS⟩, ⟨%W, %hW, HO⟩, ⟨%d0, %g0, %hg0, Hx⟩, ⟨%d1, %g1, %hg1, Ho⟩⟩
  have hx0 : g0 = xIn m c := hg0.trans (hx d0)
  subst hx0
  iapply (run_use (run_device m c)) $$ [HB HS HO Hx Ho]
  · isplitl [HB]; · iexact HB
    isplitl [HS]; · iexact HS
    isplitl [HO]; · unfold owing; iexists W; iexact HO
    isplitl [Hx]; · unfold xPts; iexact Hx
    iexists g1; unfold oPts; iexact Ho
  iintro %u Hf
  unfold owing xPts oPts
  icases Hf with ⟨HA, HS, ⟨%W', HO⟩, Hx, Ho⟩
  unfold post Pipeline.Dat.owesAt Pipeline.owesWithin
  isplitl [HA HS]
  · isplitl [HA] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
/-- The one point of the pipeline. -/
theorem body_obligation (c : Dev nD) : Pipeline.BodyObligation (dats (F := F) m 0 c) (defs₀ (F := F)) 𝒱₀ () Set.univ := fun t => by
  rw [fin_N0 t]
  rw [bigSep_W, bigSep_W]
  simp only [owns_whole_eq]
  exact pre_post m c

/-! ## The launch's side conditions -/

theorem ownSemFacts : Pipeline.OwnSemFacts cfg0.spec osem := by decide +kernel

theorem share_eq (c : Dev nD) (w : Fin cfg0.W) : (dats m 0 c).share w = fullShare := by unfold Pipeline.Dat.share; split <;> rfl

/-- The staging semaphores are no cell's. -/
theorem lv_stage (c : Dev nD) (q : DmaSem sig) (hq : ∀ k : Option Own, csem k ≠ .dma q) : lv ((c : Thread nD τ), .dma q) () = 0 := by
  have h : decode (.dma q) = none := by
    unfold decode Function.partialInv
    exact dif_neg fun ⟨k, hk⟩ => hq k hk
  unfold lv; rw [show decode (((c : Thread nD τ), SemLoc.dma q) : GSem nD τ sig).2 = none from h]

theorem waits (c : Dev nD) : (levAts L lv : sProp 𝕄) ⊢ Pipeline.cellsWaits cfgs (dats m) () 0 c :=
  Pipeline.cellsWaits_intro cfgs (dats m) () 0 c fun w s t => by
    refine mayWait c _ _ ?_
    rcases t with ⟨_ | _, ht⟩
    · refine below_O₀ c _ (lv_stage c _ ?_)
      revert w s; decide +kernel
    · intro g u hg
      exact absurd hg (Nat.lt_irrefl 0)

theorem w_all (c : Dev nD) : (((c : Thread nD τ).loc main_arg1) ↦{fullShare} m ((c : Thread nD τ).loc main_arg1) : sProp 𝕄) = wPts (wIn m) c Finset.univ := rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(Before m c ∗ emp) := by
  rw [Pipeline.unscopedRestP_none, unscopedRest0_eq, w_all]
  unfold G'
  iintro ⟨Hw, Hlev, Hcr, -, ⟨%K, HK⟩, Hat, Hp⟩
  ihave Hc := (creds (F := F) c) $$ Hcr
  icases Hc with ⟨C1, C2, C3⟩
  imodintro
  unfold Before known recs
  icases HK with ⟨HI, HR⟩
  isplitl
  · isplitl [HI HR Hlev]
    · iexists K
      isplitl [HI]; · iexact HI
      isplitl [HR] <;> iassumption
    isplitl [Hw]; · iexact Hw
    isplitl [Hat]; · iexact Hat
    isplitl [Hp]; · iexact Hp
    isplitl [C1]; · iexact C1
    isplitl [C2] <;> iassumption
  · iempintro

theorem scratch_eq (c : Dev nD) : Pipeline.scopedRest cfg0.spec c = (Scratch c : sProp 𝕄) := (scopedRest0_eq c).trans rfl

theorem phi_in (c : Dev nD) :
    iprop(Before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(Before m c ∗ Scratch c) from rfl, scratch_eq]
  iintro ⟨Hb, -, Hs⟩
  isplitl [Hb] <;> iassumption

theorem phi_out (c : Dev nD) :
    (dats m 0 c).Φ (Fin.last cfg0.N) ⊢ iprop((unscopedSems0 c ∗ wPts (wIn m) c Finset.univ) ∗ Pipeline.ownSems0 osem c ∗ Pipeline.scopedRest cfg0.spec c) := by
  rw [show (dats m 0 c).Φ (Fin.last cfg0.N) = iprop(After m c ∗ Scratch c) from rfl, scratch_eq, ownSems_eq, barSem_eq]
  unfold After
  iintro ⟨⟨Hw, Hb, Hd⟩, Hs⟩
  isplitl [Hw Hb]
  · isplitl [Hb] <;> iassumption
  isplitl [Hd] <;> iassumption

/-- What is read off a final state beside the windows' arrays: the barrier's counter and the right operand. -/
theorem read_rest (c : Dev nD) (s' : Phys nD τ sig (Elt F)) :
    iprop((unscopedSems0 c ∗ wPts (wIn m) c Finset.univ) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  have hw : iprop(wPts (wIn m) c Finset.univ ∗ SI s') ⊢ iprop(⌜s'.mem.mem ((c : Thread nD τ).loc main_arg1) = m ((c : Thread nD τ).loc main_arg1)⌝ ∗ (SI s' : sProp 𝕄)) := by
    rw [← w_all, ← bigSep_singleton (i := ()) (Φ := fun _ => (((c : Thread nD τ).loc main_arg1) ↦{fullShare} m ((c : Thread nD τ).loc main_arg1) : sProp 𝕄))]
    refine (pointsTo_read_all {()} (fun _ => (c : Thread nD τ).loc main_arg1) (fun _ => m ((c : Thread nD τ).loc main_arg1)) s').trans ?_
    iintro ⟨%h, H⟩
    isplitr; · ipureintro; exact h () (Finset.mem_singleton_self _)
    iexact H
  iintro ⟨⟨Hu, Hw⟩, -, HSI⟩
  ihave HH := hw $$ [Hw HSI]
  · isplitl [Hw] <;> iassumption
  icases HH with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1⟩
  iexact HSI

/-! ## The run -/

def finalA (c : Dev nD) (w : Fin cfg0.W) : Buf (Elt F) ((cfg0.win w).arr.view.loc (c : Thread nD τ)) := (dats m 0 c).arrAt w cfg0.N

set_option maxRecDepth 65536 in
/-- From any memory with every counter at zero the sixteen devices run to the end; each window's array then holds what the
pipeline wrote back, the right operand is unchanged, and every counter is zero. -/
theorem run_raw : θ_run defs (onTc (τ := τ) (main (F := F))) ⟨m, fun _ => 0, ρ⟩
    (fun r => (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xIn m) (wIn m)) (G' := G' (xIn m) (wIn m)) (u₀ := u₀)
    (hu₀ := by
      unfold u₀
      iintro Hu
      ihave H := (ownU_pair _ _) $$ Hu
      icases H with ⟨HP, HX⟩
      imod (fund (xIn m) (wIn m)) $$ HX with HG
      imodintro
      isplitl [HP] <;> iassumption)
    (hglob := glob (xIn m) (wIn m))
    (hA := fun _ _ => rfl) (hpf := fun _ k => k.elim0)
    (X := Before m) (Y := fun c => iprop(unscopedSems0 c ∗ wPts (wIn m) c Finset.univ)) (Z := fun _ => iprop(emp))
    (hX := start_intro m ρ) (hin := phi_in m) (hout := phi_out m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_rest m)
    (hQ := fun _ h hs => ⟨fun c => ⟨fun w => (h c).1 w, (h c).2.2.2⟩, sem_eq_zero hs fun c => (h c).2.2.1⟩)

/-- A whole array read through its one block is the array. -/
theorem read_in (f : (main_arg0 : Ref sig .tc).ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f
theorem read_out (f : (main_v1 : Ref sig .tc).ty.Contents (Elt F)) : (win0_1.blk (0 : Fin 1)).view.read (Elt F) f = f :=
  Memref.read_access_unit_zero (Elt F) main_v1 (show (fun a => (win0_1.index (0 : Fin 1)) a * main_v1.ty.shape.size a) = fun _ => 0 from
    funext fun a => by fin_cases a <;> decide) (fun a => by fin_cases a <;> decide) f

theorem xIn_eq (c : Dev nD) : xIn m c = m ((c : Thread nD τ).loc main_arg0) := read_in _

theorem final_in (c : Dev nD) : finalA m c (0 : Fin 2) = m ((c : Thread nD τ).loc main_arg0) := (dats (F := F) m 0 c).arrAt_in (0 : Fin 2) rfl _
theorem final_out (c : Dev nD) : finalA m c (1 : Fin 2) = zV (xIn m) (wIn m) c := by
  refine (read_out (finalA m c (1 : Fin 2))).symm.trans ?_
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from flush0_1 _, if_pos rfl]
  exact View.read_write_univ _ _

/-- From any memory with every counter at zero the sixteen devices run to the end: each device's result is its rows of the
product after the rectifier, quantised by the largest of them all; the operands are unchanged; every counter is zero. -/
theorem run_main : θ_run defs (onTc (τ := τ) (main (F := F))) ⟨m, fun _ => 0, ρ⟩
    (fun r => (∀ c : Dev nD, r.2.mem ((c : Thread nD τ).loc main_v1) = zV (fun d : Dev nD => m ((d : Thread nD τ).loc main_arg0)) (fun d : Dev nD => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨by
      have h1 := ((h.1 c).1 (1 : Fin 2)).trans (final_out m c)
      rw [show xIn m = fun d : Dev nD => m ((d : Thread nD τ).loc main_arg0) from funext (xIn_eq m)] at h1
      exact h1, ((h.1 c).1 (0 : Fin 2)).trans (final_in m c), (h.1 c).2⟩, h.2⟩) (run_raw m ρ)

end Cert.KernelProof

end
-- ==== Proof.Frames.lean ====
/-
  The frames: both programs and the reference run to the end, leave their operands as they were and every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Frame

@[expose] public section

noncomputable section

namespace Cert.KernelProof

open Idealize.ShloMosaic Idealize.SL.Sem

/-- The two programs have one text: the same body at the one label, -/
theorem bodies_eq {F : FTy → Type} [FloatOps F] : Cert.Kernel.defs₀ (F := F) = Cert.KernelIdeal.defs₀ := by
  unfold Cert.Kernel.defs₀ Cert.KernelIdeal.defs₀
  refine congrArg Defs.onTc (funext fun l => ?_)
  match l with
  | 0 => exact rfl
/-- so the same table of bodies. -/
theorem tables_eq {F : FTy → Type} [FloatOps F] : Cert.Kernel.defs (F := F) = Cert.KernelIdeal.defs := by
  unfold Cert.Kernel.defs Cert.KernelIdeal.defs
  rw [bodies_eq]
  rfl

/-- The kernel at machine floats: its text is that of the program whose run is proved, read at machine floats. -/
theorem frame_kernel : Cert.quiescent_Kernel := fun m ρ _ => by
  rw [tables_eq]
  exact (θ_run Cert.KernelIdeal.defs _ _).mono (fun _ h => ⟨fun c => (h.1 c).2, h.2⟩) (run_main (F := Bits) m ρ)

/-- The same text read over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference over the extended reals. -/
theorem frame_reference : Cert.quiescent_ReferenceIdeal := fun m ρ _ => Cert.ReferenceIdeal.Gen.frame m ρ

end Cert.KernelProof

end
-- ==== Proof.Math.lean ====
/-
  What the programs compute over the extended reals: the product rectified, its largest entry, and every entry divided
  by a 448th of that and multiplied by it again.
-/
module

public import proofs.«01_k».proof.Proof.Geo
public import proofs.«01_k».proof.Proof.Gen.ReferenceIdeal
public import proofs.«01_k».proof.Proof.Gen.ReferenceIdeal.Skeleton
public import Idealize.ShloMosaic.Lib.MatmulPlain
public import Idealize.ShloMosaic.Lib.ValueIdx
public import Idealize.ShloMosaic.Lib.ValueLayout
public import Idealize.ShloMosaic.Lib.Layout

@[expose] public section

noncomputable section

namespace Cert.KernelProof

open Cert.KernelIdeal Cert.KernelIdeal.Gen
open Idealize.ShloMosaic Idealize.SL.Sem

/-! ## Numbers -/

/-- The words of −∞, 448 and −448. -/
theorem word_bot : FloatOps.ofBits (F := Ideal) .f32 0xFF800000#32 = (⊥ : EReal) := by
  show Ideal.ofBits .f32 0xFF800000#32 = ⊥
  simp [Ideal.ofBits, Ideal.ieee]
theorem word_448 : FloatOps.ofBits (F := Ideal) .f32 0x43E00000#32 = ((448 : ℝ) : EReal) := by
  show Ideal.ofBits .f32 0x43E00000#32 = _
  simp [Ideal.ofBits, Ideal.ieee]
  rw [← EReal.coe_mul]; norm_num
theorem word_neg448 : FloatOps.ofBits (F := Ideal) .f32 0xC3E00000#32 = ((-448 : ℝ) : EReal) := by
  show Ideal.ofBits .f32 0xC3E00000#32 = _
  simp [Ideal.ofBits, Ideal.ieee]
  rw [← EReal.coe_mul]; norm_num

/-- A number that is not negative is its own absolute value. -/
theorem abs_of_nonneg' {y : EReal} (h : 0 ≤ y) : max y (-y) = y :=
  max_eq_left ((EReal.neg_le_zero.2 h).trans h)

/-- A number between zero and the largest, divided by a 448th of the largest, needs no clipping to ±448: where the
    largest is zero both products are zero, where it is infinite the quotient is. -/
theorem clip_mul {y a : EReal} (h0 : 0 ≤ y) (h : y ≤ a) :
    min ((448 : ℝ) : EReal) (max ((-448 : ℝ) : EReal) (Ideal.div y (Ideal.div a ((448 : ℝ) : EReal)))) * Ideal.div a ((448 : ℝ) : EReal)
      = Ideal.div y (Ideal.div a ((448 : ℝ) : EReal)) * Ideal.div a ((448 : ℝ) : EReal) := by
  have h448 : ((448 : ℝ) : EReal) ≠ 0 := by simp
  have hd : Ideal.div a ((448 : ℝ) : EReal) = a * (((448 : ℝ)⁻¹ : ℝ) : EReal) := by
    rw [Ideal.div, if_neg h448, EReal.coe_inv]
  rw [hd]
  by_cases ha : a * (((448 : ℝ)⁻¹ : ℝ) : EReal) = 0
  · rw [ha, mul_zero, mul_zero]
  congr 1
  rw [Ideal.div, if_neg ha]
  induction a using EReal.rec with
  | bot => exact absurd (h0.trans h) (by simp)
  | top =>
    have : (⊤ : EReal) * (((448 : ℝ)⁻¹ : ℝ) : EReal) = ⊤ := EReal.top_mul_coe_of_pos (by norm_num)
    rw [this, EReal.inv_top, mul_zero]
    rw [max_eq_right (by exact_mod_cast (by norm_num : (-448 : ℝ) ≤ 0)), min_eq_right (by exact_mod_cast (by norm_num : (0 : ℝ) ≤ 448))]
  | coe b =>
    induction y using EReal.rec with
    | bot => exact absurd h0 (by simp)
    | top => exact absurd h (by simp)
    | coe z =>
      have hz : (0 : ℝ) ≤ z := by exact_mod_cast h0
      have hzb : z ≤ b := by exact_mod_cast h
      have hb : 0 < b := by
        rcases (hz.trans hzb).lt_or_eq with h | h
        · exact h
        · exact absurd (by rw [← h, EReal.coe_zero, zero_mul]) ha
      have e : (z : EReal) * ((b : EReal) * (((448 : ℝ)⁻¹ : ℝ) : EReal))⁻¹ = ((z * (b * 448⁻¹)⁻¹ : ℝ) : EReal) := by
        rw [← EReal.coe_mul, ← EReal.coe_inv, ← EReal.coe_mul]
      have h1 : 0 ≤ z * (b * 448⁻¹)⁻¹ := by positivity
      have h2 : z * (b * 448⁻¹)⁻¹ ≤ 448 := by
        rw [← div_eq_mul_inv, div_le_iff₀ (by positivity)]; linarith
      rw [e, max_eq_right (EReal.coe_le_coe_iff.2 (by linarith)), min_eq_right (EReal.coe_le_coe_iff.2 h2)]

/-! ## The largest entry -/

/-- A maximum from −∞ into a shape of one element is the supremum over every index. -/
theorem max_total {s t : Shape} {axes : List (Fin s.rank)} (v : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t v 0xFF800000#32 h hφ hacc j = Finset.univ.sup (fun i : s.Idx => (v i : EReal)) := by
  rw [multiReduction_maximumf_eq_fold, word_bot, Finset.filter_true_of_mem fun i _ => funext fun b => Fin.ext (by
    have := (h.drop i b).isLt; have := (j b).isLt; have := ht b; omega)]
  rfl

/-- A change of shape leaves the largest entry. -/
theorem sup_shapeCast {s t : Shape} (v : s.Idx → EReal) (h : s.ShapeCasts t) :
    Finset.univ.sup (fun i : t.Idx => shapeCast t v h i) = Finset.univ.sup v := by
  refine le_antisymm (Finset.sup_le fun i _ => ?_) (Finset.sup_le fun i _ => ?_)
  · exact Finset.le_sup (f := v) (Finset.mem_univ _)
  · have := Finset.le_sup (f := fun i : t.Idx => shapeCast t v h i) (Finset.mem_univ (Shape.reshapeEquiv h.symm i))
    refine le_trans (le_of_eq ?_) this
    exact (shapeCast_apply v h _ i (Shape.rowMajor_reshapeEquiv _ _).symm).symm

/-- So a maximum of contents whose shape was changed is the supremum of the contents, -/
theorem max_cast {s t u : Shape} {axes : List (Fin t.rank)} (v : FVec Ideal s .f32) (hc : s.ShapeCasts t) (h : t.Reduces axes u)
    (hu : ∀ b, u.size b = 1) (hφ : FKind.Formats .f32) (hacc : (0xFF800000#32 : BitVec 32) = FKind.maximumf.neutral .f32 hφ) (j : u.Idx) :
    multiReduction .maximumf axes u (shapeCast t v hc) 0xFF800000#32 h hφ hacc j = Finset.univ.sup (fun i : s.Idx => (v i : EReal)) :=
  (max_total _ h hu hφ hacc j).trans (sup_shapeCast v hc)

/-- and what is read from one element of contents that are one number is that number. -/
theorem extract_cast {s t : Shape} {α : Type} {p : Fin t.rank → Nat} (v : s.Idx → α) (a : α) (h : s.ShapeCasts t) (hp : ∀ a, p a < t.size a)
    (hv : ∀ j, v j = a) : extractAt p (shapeCast t v h) hp = a := hv _
theorem cast_broadcast {s t : Shape} {α : Type} (a : α) (h : s.ShapeCasts t) (i : t.Idx) : shapeCast t (broadcast s a) h i = a := rfl

/-- `S1` has one element. -/
theorem one_size (b : Fin S1.rank) : S1.size b = 1 := by fin_cases b; rfl

/-! ## The reference -/

section Reference

variable (x : Vec Ideal Cert.ReferenceIdeal.S4096x4096 .f32) (w : Vec Ideal S4096x8192 .f32)

/-- The rectified product. -/
def Y (i : S4096x8192.Idx) : EReal := max (∑ k : Fin 4096, (x (ix2 (i 0) k) : EReal) * w (ix2 k (i 1))) 0
/-- Its largest entry, and a 448th of it. -/
def Ymax : EReal := Finset.univ.sup (Y x w)
def Yscale : EReal := Ideal.div (Ymax x w) ((448 : ℝ) : EReal)

theorem Y_nonneg (i) : 0 ≤ Y x w i := le_max_right _ _
theorem Y_le (i) : Y x w i ≤ Ymax x w := Finset.le_sup (f := Y x w) (Finset.mem_univ i)

/-- The reference's rectified product, entry by entry. -/
theorem ref_relu :
    maximumf (F := Ideal) (φ := .f32) (matmul (φ₁ := .f32) (φ₂ := .f32) Cert.ReferenceIdeal.dot_S4096x4096_S4096x8192_S4096x8192_1_0_0_1_n_n none x w (constant Cert.ReferenceIdeal.S4096x8192 .f32 0x00000000#32))
      (broadcast Cert.ReferenceIdeal.S4096x8192 (Scalar.ofBits (F := Ideal) .f32 0x00000000#32)) = Y x w := by
  funext i
  obtain ⟨r, j, rfl⟩ : ∃ r j, i = ValueIdx.ix2 r j := ⟨i 0, i 1, ValueIdx.eq_ix2 i⟩
  refine congrArg₂ max ?_ Ideal.ofBits_zero_f32
  simp only [matmul]
  exact (Ideal.matmul_plain_apply none x w _ r j).trans ((congrArg (· + _) Ideal.ofBits_zero_f32).trans (zero_add _))

/-- The reference's result: every entry divided by the scale and multiplied by it again. The absolute values change
    nothing, for no entry is negative; nor does the clipping. -/
theorem ref_apply (i : S4096x8192.Idx) :
    (Cert.ReferenceIdeal.Gen.k0_pay1 (F := Ideal) x w i : EReal) = Ideal.div (Y x w i) (Yscale x w) * Yscale x w := by
  refine Eq.trans ?_ (clip_mul (Y_nonneg x w i) (Y_le x w i))
  unfold Cert.ReferenceIdeal.Gen.k0_pay1
  rw [ref_relu]
  have hm : ∀ (h : Cert.ReferenceIdeal.S4096x8192.ShapeCasts Cert.ReferenceIdeal.S1x4096x8192) (h' : Cert.ReferenceIdeal.S1x4096x8192.Reduces [1, 2] Cert.ReferenceIdeal.S1) j,
      multiReduction .maximumf [1, 2] Cert.ReferenceIdeal.S1 (shapeCast Cert.ReferenceIdeal.S1x4096x8192 (absf (F := Ideal) (φ := .f32) (Y x w)) h) 0xFF800000#32 h' (.inl rfl) rfl j = Ymax x w := fun h h' j =>
    (max_cast _ h h' one_size (.inl rfl) rfl j).trans (congrArg _ (funext fun i => abs_of_nonneg' (Y_nonneg x w i)))
  have hs := fun h h' hc hp => congrArg₂ Ideal.div (extract_cast (t := Cert.ReferenceIdeal.S1x1x1) (p := ![0, 0, 0]) _ _ hc hp (hm h h')) word_448
  exact congrArg₂ (· * ·) (congrArg₂ min word_448 (congrArg₂ max word_neg448 (congrArg (Ideal.div _) (hs _ _ _ _)))) (hs _ _ _ _)

end Reference

/-! ## The kernel -/

/-- The columns of `x` and the rows of the result are cut into sixteen blocks. -/
theorem tiles_cols : Layout.Tiles ⟨2, ![4096, 256]⟩ ⟨2, ![4096, 4096]⟩ 1 16 := by decide
theorem tiles_rows : Layout.Tiles ⟨2, ![256, 8192]⟩ ⟨2, ![4096, 8192]⟩ 0 16 := by decide

section Kernel

/-- The sixteen steps take their blocks from the sixteen devices, each once. -/
theorem sum_src (c : Dev nD) (Q : Dev nD → EReal) : ∑ t ∈ Finset.range 16, Q (src c t) = ∑ d : Fin 16, Q d := by
  rw [Finset.sum_range]
  refine Function.Bijective.sum_comp (e := fun t : Fin 16 => (src c t.val : Fin 16)) (Finite.injective_iff_bijective.1 fun a b h => ?_) Q
  have h1 : (c.val + (16 - a.val)) % 16 = (c.val + (16 - b.val)) % 16 := congrArg Fin.val h
  have ha := a.isLt; have hb := b.isLt; have hc : c.val < 16 := c.isLt
  exact Fin.ext (by omega)

/-- A sum over sixteen blocks of 256 is the sum over all. -/
theorem sum_blocks (f : Fin 4096 → EReal) : ∑ d : Fin 16, ∑ k : Fin 256, f (rowOf d k) = ∑ k : Fin 4096, f k := by
  rw [← Fintype.sum_prod_type']
  refine Fintype.sum_equiv (finProdFinEquiv (m := 16) (n := 256)) _ f fun p => congrArg f (Fin.ext ?_)
  show 256 * p.1.val + p.2.val = p.2.val + 256 * p.1.val
  omega

variable (X : Dev nD → Vec Ideal S4096x256 .f32) (Wt : Dev nD → Vec Ideal S4096x8192 .f32)

/-- Narrowing is the identity here. -/
theorem xsF_eq (c : Dev nD) : xsF X c = X c := by
  unfold xsF k0_pay1
  dsimp only
  rw [shapeCast_self, shapeCast_self]
  rfl

/-- One step's product. -/
def stepProd (c : Dev nD) (i : S256x8192.Idx) (d : Dev nD) : EReal :=
  ∑ k : Fin 256, (X d (ix2 (rowOf c (i 0)) k) : EReal) * Wt c (ix2 (rowOf d k) (i 1))

/-- A block product into zeros is the sum of products. -/
theorem prod_apply (a : FVec Ideal S256x256 .bf16) (b : FVec Ideal S256x8192 .bf16) (i : S256x8192.Idx) :
    (matmul dot_S256x256_S256x8192_S256x8192_1_0_0_1_n_n none a b (constant S256x8192 .f32 0x00000000#32) i : EReal)
      = ∑ k : Fin 256, (a (ix2 (i 0) k) : EReal) * b (ix2 k (i 1)) := by
  obtain ⟨r, j, rfl⟩ : ∃ r j, i = ValueIdx.ix2 r j := ⟨i 0, i 1, ValueIdx.eq_ix2 i⟩
  simp only [matmul]
  exact (Ideal.matmul_plain_apply none a b _ r j).trans ((congrArg (· + _) Ideal.ofBits_zero_f32).trans (zero_add _))

/-- Dropping the unit axis and narrowing leave the entries. -/
theorem narrow_apply (v : Vec Ideal S1x256x8192 .f32) (h hb) (k : Fin 256) (j : Fin 8192) :
    (truncf (F := Ideal) (φ := .f32) .bf16 (shapeCast S256x8192 v h) hb (ix2 k j) : EReal) = v (ix3 0 k j) :=
  ValueIdx.shapeCast_1ab_ab_apply (a := 256) (b := 8192) v h k j
/-- The block after each step, by the step. -/
theorem acc_zero (c : Dev nD) : acc X Wt c 0 = k0_pay2 (aV X c) (wV Wt c 0) := rfl
theorem acc_succ (c : Dev nD) (s : ℕ) : acc X Wt c (s + 1) = k0_pay3 (gV X c (s + 1)) (wV Wt c (s + 1)) (acc X Wt c s) := rfl

/-- The output block after step `s` is the sum of the products of the steps so far. -/
theorem acc_apply (c : Dev nD) (i : S256x8192.Idx) : ∀ s : ℕ,
    (acc X Wt c s i : EReal) = ∑ t ∈ Finset.range (s + 1), stepProd X Wt c i (src c t)
  | 0 => by
    rw [Finset.sum_range_one, src_zero, acc_zero]
    unfold k0_pay2
    refine (prod_apply _ _ _).trans (Finset.sum_congr rfl fun k _ => congrArg₂ (· * ·) ?_ ?_)
    · exact congrFun (xsF_eq X c) _
    · refine (narrow_apply _ _ _ _ _).trans ?_
      show Wt c (ix2 (rowOf (src c 0) k) (i 1)) = Wt c (ix2 (rowOf c k) (i 1))
      rw [src_zero]
  | s + 1 => by
    rw [Finset.sum_range_succ, ← acc_apply c i s, acc_succ]
    unfold k0_pay3
    refine congrArg₂ (· + ·) ?_ ((prod_apply _ _ _).trans (Finset.sum_congr rfl fun k _ => congrArg₂ (· * ·) ?_ ?_))
    · rw [shapeCast_self]
    · refine (ValueIdx.shapeCast_1ab_ab_apply (a := 256) (b := 256) _ _ _ _).trans ?_
      exact congrFun (xsF_eq X _) _
    · exact (narrow_apply _ _ _ _ _).trans rfl

variable (x : Vec Ideal Cert.ReferenceIdeal.S4096x4096 .f32) (w : Vec Ideal S4096x8192 .f32)
variable (hX : ∀ d, X d = Layout.block ⟨2, ![4096, 256]⟩ ⟨2, ![4096, 4096]⟩ 1 16 d x tiles_cols) (hW : ∀ d, Wt d = w)

include hX hW

/-- Device `c`'s rectified block is row block `c` of the rectified product. -/
theorem yV_apply (c : Dev nD) (i : S256x8192.Idx) : (yV X Wt c i : EReal) = Y x w (ix2 (rowOf c (i 0)) (i 1)) := by
  unfold yV k0_pay22
  rw [shapeCast_self]
  refine congrArg₂ max ?_ Ideal.ofBits_zero_f32
  rw [acc_apply, sum_src]
  refine Eq.trans ?_ (sum_blocks fun k => (x (ix2 (rowOf c (i 0)) k) : EReal) * w (ix2 k (i 1)))
  refine Finset.sum_congr rfl fun d _ => Finset.sum_congr rfl fun k _ => congrArg₂ (· * ·) ?_ ?_
  · rw [hX, Layout.block_apply]
    refine congrArg x (funext fun a => Fin.ext ?_)
    match a with
    | ⟨0, _⟩ => rfl
    | ⟨1, _⟩ => show d.val * 256 + k.val = 256 * d.val + k.val; omega
  · rw [hW]

/-- Every element of a device's tile is the largest entry of its block. -/
theorem mV_apply (c : Dev nD) (i : S1x8x128.Idx) : (mV X Wt c i : EReal) = Finset.univ.sup fun j : S256x8192.Idx => Y x w (ix2 (rowOf c (j 0)) (j 1)) := by
  unfold mV k0_pay23
  refine (cast_broadcast _ _ _).trans ((extract_cast _ _ _ _ fun j => max_cast (yV X Wt c) _ _ one_size (.inl rfl) rfl j).trans ?_)
  exact congrArg _ (funext fun j => yV_apply X Wt x w hX hW c j)

/-- So in the stack of all tiles every element of a device's tile is. -/
theorem amF_apply (i : S16x8x128.Idx) : (amF X Wt i : EReal) = Finset.univ.sup fun j : S256x8192.Idx => Y x w (ix2 (rowOf (i 0) (j 0)) (j 1)) :=
  mV_apply X Wt x w hX hW (i 0) (ix3 0 (i 1) (i 2))

/-- The devices' scale is the reference's. -/
theorem scale_eq : (k0_pay24 (amF X Wt) : EReal) = Yscale x w := by
  unfold k0_pay24
  dsimp only
  refine congrArg₂ Ideal.div ((extract_cast _ _ _ _ fun j => max_cast (amF X Wt) _ _ one_size (.inl rfl) rfl j).trans ?_) word_448
  refine le_antisymm (Finset.sup_le fun i _ => ?_) (Finset.sup_le fun i _ => ?_)
  · refine (amF_apply X Wt x w hX hW i).le.trans (Finset.sup_le fun j _ => Y_le x w _)
  · let c : Fin 16 := ⟨(i 0).val / 256, by have : (i 0).val < 4096 := (i 0).isLt; omega⟩
    let r : Fin 256 := ⟨(i 0).val % 256, Nat.mod_lt _ (by decide)⟩
    refine le_trans ?_ (Finset.le_sup (f := fun i : S16x8x128.Idx => (amF X Wt i : EReal)) (Finset.mem_univ (ix3 c 0 0)))
    refine le_trans ?_ (amF_apply X Wt x w hX hW (ix3 c 0 0)).ge
    refine le_trans (le_of_eq (congrArg (Y x w) ?_)) (Finset.le_sup (f := fun j : S256x8192.Idx => Y x w (ix2 (rowOf c (j 0)) (j 1))) (Finset.mem_univ (ix2 r (i 1))))
    funext a; apply Fin.ext
    match a with
    | ⟨0, _⟩ => exact (Nat.div_add_mod (i 0).val 256).symm
    | ⟨1, _⟩ => rfl

/-- The kernel's result on device `c` is row block `c` of the reference's. -/
theorem zV_eq (c : Dev nD) :
    zV X Wt c = Layout.block ⟨2, ![256, 8192]⟩ ⟨2, ![4096, 8192]⟩ 0 16 c (Cert.ReferenceIdeal.Gen.k0_pay1 (F := Ideal) x w) tiles_rows := by
  funext i
  rw [Layout.block_apply]
  refine Eq.trans ?_ (ref_apply x w _).symm
  unfold zV k0_pay25
  rw [shapeCast_self]
  have hi : ∀ h : Layout.Tiles ⟨2, ![256, 8192]⟩ ⟨2, ![4096, 8192]⟩ 0 16, h.idx c i = ix2 (rowOf c (i 0)) (i 1) := fun h => funext fun a => Fin.ext (by
    match a with
    | ⟨0, _⟩ => show c.val * 256 + (i 0).val = 256 * c.val + (i 0).val; omega
    | ⟨1, _⟩ => rfl)
  rw [hi]
  exact congrArg₂ (· * ·) (congrArg₂ Ideal.div (yV_apply X Wt x w hX hW c i) (scale_eq X Wt x w hX hW)) (scale_eq X Wt x w hX hW)

end Kernel

end Cert.KernelProof

end
-- ==== Proof.lean ====
/-
  The proof of the claims of proofs.«01_k».proof.Defs: the three frames, and that over the extended reals the kernel
  leaves on every device its row block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Frames
public import proofs.«01_k».proof.Proof.Math

@[expose] public section

noncomputable section

namespace Cert.Proof

open Idealize.ShloMosaic Idealize.SL.Sem

/-- From the blocks of `x` and the copies of the weights, every device ends with its row block of what the reference
    ends with. -/
theorem algebraic : Cert.algebraic_KernelIdeal_ReferenceIdeal := fun m g m' g' _ h => by
  refine ⟨Cert.ReferenceIdeal.Gen.k0_pay1 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨(hr.1 c).1.trans ?_, (hr.1 c).2⟩) (Cert.KernelProof.run_main (F := Ideal) m g)
    exact Cert.KernelProof.zV_eq _ _ _ _ (fun d => (h d).1) (fun d => (h d).2) c
  · exact (θ_run Cert.ReferenceIdeal.defs _ _).mono (fun _ hr => hr 0) (Cert.ReferenceIdeal.Value.run (F := Ideal) m' g')

/-- The claims. -/
theorem claim : Cert.Claim :=
  ⟨Cert.Kernel.Gen.facts, Cert.KernelIdeal.Gen.facts, Cert.ReferenceIdeal.Gen.facts,
    Cert.KernelProof.frame_kernel, Cert.KernelProof.frame_ideal, Cert.KernelProof.frame_reference, trivial, algebraic⟩

end Cert.Proof

end
